-- ==== Defs.lean ====
def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerRefIdeal (m : (ℓ : Loc Cert.LayerRefIdeal.nD Cert.LayerRefIdeal.τ Cert.LayerRefIdeal.sig) → Buf (Elt Ideal) ℓ) : Prop :=
  True

def Pre_PlePrompt (m : (ℓ : Loc Cert.PlePrompt.nD Cert.PlePrompt.τ Cert.PlePrompt.sig) → Buf (Elt Bits) ℓ) : Prop :=
  True

def Pre_PlePromptIdeal (m : (ℓ : Loc Cert.PlePromptIdeal.nD Cert.PlePromptIdeal.τ Cert.PlePromptIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysIdeal_finite [hPre_finite : Cert.Pre_finite.Facts] (m : (ℓ : Loc Cert.KeysIdeal.nD Cert.KeysIdeal.τ Cert.KeysIdeal.sig) → Buf (Elt Ideal) ℓ) : Prop :=
  ∀ c : Dev Cert.KeysIdeal.nD,
    (Cert.Pre_finite.fn (F := Ideal) (m ((c.tc : Thread Cert.KeysIdeal.nD Cert.KeysIdeal.τ).loc Cert.KeysIdeal.main_arg0)) (m ((c.tc : Thread Cert.KeysIdeal.nD Cert.KeysIdeal.τ).loc Cert.KeysIdeal.main_arg1)) (m ((c.tc : Thread Cert.KeysIdeal.nD Cert.KeysIdeal.τ).loc Cert.KeysIdeal.main_arg2)) (m ((c.tc : Thread Cert.KeysIdeal.nD Cert.KeysIdeal.τ).loc Cert.KeysIdeal.main_arg3)) (m ((c.tc : Thread Cert.KeysIdeal.nD Cert.KeysIdeal.τ).loc Cert.KeysIdeal.main_arg4)) (m ((c.tc : Thread Cert.KeysIdeal.nD Cert.KeysIdeal.τ).loc Cert.KeysIdeal.main_arg5))) = (fun _ => 1#1)

def Pre_KeysRefIdeal (m : (ℓ : Loc Cert.KeysRefIdeal.nD Cert.KeysRefIdeal.τ Cert.KeysRefIdeal.sig) → Buf (Elt Ideal) ℓ) : Prop :=
  True

def Pre_KeysRefIdeal_finite [hPre_finite : Cert.Pre_finite.Facts] (m : (ℓ : Loc Cert.KeysRefIdeal.nD Cert.KeysRefIdeal.τ Cert.KeysRefIdeal.sig) → Buf (Elt Ideal) ℓ) : Prop :=
  ∀ c : Dev Cert.KeysRefIdeal.nD,
    (Cert.Pre_finite.fn (F := Ideal) (m ((c.tc : Thread Cert.KeysRefIdeal.nD Cert.KeysRefIdeal.τ).loc Cert.KeysRefIdeal.main_arg0)) (m ((c.tc : Thread Cert.KeysRefIdeal.nD Cert.KeysRefIdeal.τ).loc Cert.KeysRefIdeal.main_arg1)) (m ((c.tc : Thread Cert.KeysRefIdeal.nD Cert.KeysRefIdeal.τ).loc Cert.KeysRefIdeal.main_arg2)) (m ((c.tc : Thread Cert.KeysRefIdeal.nD Cert.KeysRefIdeal.τ).loc Cert.KeysRefIdeal.main_arg3)) (m ((c.tc : Thread Cert.KeysRefIdeal.nD Cert.KeysRefIdeal.τ).loc Cert.KeysRefIdeal.main_arg4)) (m ((c.tc : Thread Cert.KeysRefIdeal.nD Cert.KeysRefIdeal.τ).loc Cert.KeysRefIdeal.main_arg5))) = (fun _ => 1#1)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11)
      ∧ r.2.mem ((c.tc : Thread Cert.Layer.nD Cert.Layer.τ).loc Cert.Layer.main_arg12) = m ((c.tc : Thread Cert.Layer.nD Cert.Layer.τ).loc Cert.Layer.main_arg12)
      ∧ r.2.mem ((c.tc : Thread Cert.Layer.nD Cert.Layer.τ).loc Cert.Layer.main_arg13) = m ((c.tc : Thread Cert.Layer.nD Cert.Layer.τ).loc Cert.Layer.main_arg13)
      ∧ r.2.mem ((c.tc : Thread Cert.Layer.nD Cert.Layer.τ).loc Cert.Layer.main_arg14) = m ((c.tc : Thread Cert.Layer.nD Cert.Layer.τ).loc Cert.Layer.main_arg14)
      ∧ r.2.mem ((c.tc : Thread Cert.Layer.nD Cert.Layer.τ).loc Cert.Layer.main_arg15) = m ((c.tc : Thread Cert.Layer.nD Cert.Layer.τ).loc Cert.Layer.main_arg15)
      ∧ r.2.mem ((c.tc : Thread Cert.Layer.nD Cert.Layer.τ).loc Cert.Layer.main_arg16) = m ((c.tc : Thread Cert.Layer.nD Cert.Layer.τ).loc Cert.Layer.main_arg16)
      ∧ r.2.mem ((c.tc : Thread Cert.Layer.nD Cert.Layer.τ).loc Cert.Layer.main_arg17) = m ((c.tc : Thread Cert.Layer.nD Cert.Layer.τ).loc Cert.Layer.main_arg17))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
      ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
      ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
      ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
      ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
      ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
      ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11)
      ∧ r.2.mem ((c.tc : Thread Cert.LayerRefIdeal.nD Cert.LayerRefIdeal.τ).loc Cert.LayerRefIdeal.main_arg12) = m ((c.tc : Thread Cert.LayerRefIdeal.nD Cert.LayerRefIdeal.τ).loc Cert.LayerRefIdeal.main_arg12)
      ∧ r.2.mem ((c.tc : Thread Cert.LayerRefIdeal.nD Cert.LayerRefIdeal.τ).loc Cert.LayerRefIdeal.main_arg13) = m ((c.tc : Thread Cert.LayerRefIdeal.nD Cert.LayerRefIdeal.τ).loc Cert.LayerRefIdeal.main_arg13)
      ∧ r.2.mem ((c.tc : Thread Cert.LayerRefIdeal.nD Cert.LayerRefIdeal.τ).loc Cert.LayerRefIdeal.main_arg14) = m ((c.tc : Thread Cert.LayerRefIdeal.nD Cert.LayerRefIdeal.τ).loc Cert.LayerRefIdeal.main_arg14)
      ∧ r.2.mem ((c.tc : Thread Cert.LayerRefIdeal.nD Cert.LayerRefIdeal.τ).loc Cert.LayerRefIdeal.main_arg15) = m ((c.tc : Thread Cert.LayerRefIdeal.nD Cert.LayerRefIdeal.τ).loc Cert.LayerRefIdeal.main_arg15)
      ∧ r.2.mem ((c.tc : Thread Cert.LayerRefIdeal.nD Cert.LayerRefIdeal.τ).loc Cert.LayerRefIdeal.main_arg16) = m ((c.tc : Thread Cert.LayerRefIdeal.nD Cert.LayerRefIdeal.τ).loc Cert.LayerRefIdeal.main_arg16)
      ∧ r.2.mem ((c.tc : Thread Cert.LayerRefIdeal.nD Cert.LayerRefIdeal.τ).loc Cert.LayerRefIdeal.main_arg17) = m ((c.tc : Thread Cert.LayerRefIdeal.nD Cert.LayerRefIdeal.τ).loc Cert.LayerRefIdeal.main_arg17))
      ∧ r.2.sem = fun _ => 0)

def quiescent_PlePrompt [hPlePrompt : Cert.PlePrompt.Facts] : Prop :=
  ∀ (m : (ℓ : Loc Cert.PlePrompt.nD Cert.PlePrompt.τ Cert.PlePrompt.sig) → Buf (Elt Bits) ℓ) (g : Dev Cert.PlePrompt.nD → PrngReg), Pre_PlePrompt m →
    θ_run (Cert.PlePrompt.defs (F := Bits)) (onTc (τ := Cert.PlePrompt.τ) (Cert.PlePrompt.main (F := Bits))) ⟨m, fun _ => 0, g⟩ (fun r => (∀ c : Dev Cert.PlePrompt.nD,
      r.2.mem ((c.tc : Thread Cert.PlePrompt.nD Cert.PlePrompt.τ).loc Cert.PlePrompt.main_arg0) = m ((c.tc : Thread Cert.PlePrompt.nD Cert.PlePrompt.τ).loc Cert.PlePrompt.main_arg0)
      ∧ r.2.mem ((c.tc : Thread Cert.PlePrompt.nD Cert.PlePrompt.τ).loc Cert.PlePrompt.main_arg1) = m ((c.tc : Thread Cert.PlePrompt.nD Cert.PlePrompt.τ).loc Cert.PlePrompt.main_arg1)
      ∧ r.2.mem ((c.tc : Thread Cert.PlePrompt.nD Cert.PlePrompt.τ).loc Cert.PlePrompt.main_arg2) = m ((c.tc : Thread Cert.PlePrompt.nD Cert.PlePrompt.τ).loc Cert.PlePrompt.main_arg2)
      ∧ r.2.mem ((c.tc : Thread Cert.PlePrompt.nD Cert.PlePrompt.τ).loc Cert.PlePrompt.main_arg3) = m ((c.tc : Thread Cert.PlePrompt.nD Cert.PlePrompt.τ).loc Cert.PlePrompt.main_arg3)
      ∧ r.2.mem ((c.tc : Thread Cert.PlePrompt.nD Cert.PlePrompt.τ).loc Cert.PlePrompt.main_arg4) = m ((c.tc : Thread Cert.PlePrompt.nD Cert.PlePrompt.τ).loc Cert.PlePrompt.main_arg4))
      ∧ r.2.sem = fun _ => 0)

def quiescent_PlePromptIdeal [hPlePromptIdeal : Cert.PlePromptIdeal.Facts] : Prop :=
  ∀ (m : (ℓ : Loc Cert.PlePromptIdeal.nD Cert.PlePromptIdeal.τ Cert.PlePromptIdeal.sig) → Buf (Elt Ideal) ℓ) (g : Dev Cert.PlePromptIdeal.nD → PrngReg), Pre_PlePromptIdeal m →
    θ_run (Cert.PlePromptIdeal.defs (F := Ideal)) (onTc (τ := Cert.PlePromptIdeal.τ) (Cert.PlePromptIdeal.main (F := Ideal))) ⟨m, fun _ => 0, g⟩ (fun r => (∀ c : Dev Cert.PlePromptIdeal.nD,
      r.2.mem ((c.tc : Thread Cert.PlePromptIdeal.nD Cert.PlePromptIdeal.τ).loc Cert.PlePromptIdeal.main_arg0) = m ((c.tc : Thread Cert.PlePromptIdeal.nD Cert.PlePromptIdeal.τ).loc Cert.PlePromptIdeal.main_arg0)
      ∧ r.2.mem ((c.tc : Thread Cert.PlePromptIdeal.nD Cert.PlePromptIdeal.τ).loc Cert.PlePromptIdeal.main_arg1) = m ((c.tc : Thread Cert.PlePromptIdeal.nD Cert.PlePromptIdeal.τ).loc Cert.PlePromptIdeal.main_arg1)
      ∧ r.2.mem ((c.tc : Thread Cert.PlePromptIdeal.nD Cert.PlePromptIdeal.τ).loc Cert.PlePromptIdeal.main_arg2) = m ((c.tc : Thread Cert.PlePromptIdeal.nD Cert.PlePromptIdeal.τ).loc Cert.PlePromptIdeal.main_arg2)
      ∧ r.2.mem ((c.tc : Thread Cert.PlePromptIdeal.nD Cert.PlePromptIdeal.τ).loc Cert.PlePromptIdeal.main_arg3) = m ((c.tc : Thread Cert.PlePromptIdeal.nD Cert.PlePromptIdeal.τ).loc Cert.PlePromptIdeal.main_arg3)
      ∧ r.2.mem ((c.tc : Thread Cert.PlePromptIdeal.nD Cert.PlePromptIdeal.τ).loc Cert.PlePromptIdeal.main_arg4) = m ((c.tc : Thread Cert.PlePromptIdeal.nD Cert.PlePromptIdeal.τ).loc Cert.PlePromptIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3)
      ∧ r.2.mem ((c.tc : Thread Cert.Keys.nD Cert.Keys.τ).loc Cert.Keys.main_arg4) = m ((c.tc : Thread Cert.Keys.nD Cert.Keys.τ).loc Cert.Keys.main_arg4)
      ∧ r.2.mem ((c.tc : Thread Cert.Keys.nD Cert.Keys.τ).loc Cert.Keys.main_arg5) = m ((c.tc : Thread Cert.Keys.nD Cert.Keys.τ).loc Cert.Keys.main_arg5))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
      ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ r.2.sem = fun _ => 0)

def quiescent_KeysIdeal_pre_finite [hKeysIdeal : Cert.KeysIdeal.Facts] [hPre_finite : Cert.Pre_finite.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal_finite m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
      ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2)
      ∧ r.2.mem ((c.tc : Thread Cert.KeysRefIdeal.nD Cert.KeysRefIdeal.τ).loc Cert.KeysRefIdeal.main_arg3) = m ((c.tc : Thread Cert.KeysRefIdeal.nD Cert.KeysRefIdeal.τ).loc Cert.KeysRefIdeal.main_arg3)
      ∧ r.2.mem ((c.tc : Thread Cert.KeysRefIdeal.nD Cert.KeysRefIdeal.τ).loc Cert.KeysRefIdeal.main_arg4) = m ((c.tc : Thread Cert.KeysRefIdeal.nD Cert.KeysRefIdeal.τ).loc Cert.KeysRefIdeal.main_arg4)
      ∧ r.2.mem ((c.tc : Thread Cert.KeysRefIdeal.nD Cert.KeysRefIdeal.τ).loc Cert.KeysRefIdeal.main_arg5) = m ((c.tc : Thread Cert.KeysRefIdeal.nD Cert.KeysRefIdeal.τ).loc Cert.KeysRefIdeal.main_arg5))
      ∧ r.2.sem = fun _ => 0)

def quiescent_KeysRefIdeal_pre_finite [hKeysRefIdeal : Cert.KeysRefIdeal.Facts] [hPre_finite : Cert.Pre_finite.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal_finite m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2)
      ∧ r.2.mem ((c.tc : Thread Cert.KeysRefIdeal.nD Cert.KeysRefIdeal.τ).loc Cert.KeysRefIdeal.main_arg3) = m ((c.tc : Thread Cert.KeysRefIdeal.nD Cert.KeysRefIdeal.τ).loc Cert.KeysRefIdeal.main_arg3)
      ∧ r.2.mem ((c.tc : Thread Cert.KeysRefIdeal.nD Cert.KeysRefIdeal.τ).loc Cert.KeysRefIdeal.main_arg4) = m ((c.tc : Thread Cert.KeysRefIdeal.nD Cert.KeysRefIdeal.τ).loc Cert.KeysRefIdeal.main_arg4)
      ∧ r.2.mem ((c.tc : Thread Cert.KeysRefIdeal.nD Cert.KeysRefIdeal.τ).loc Cert.KeysRefIdeal.main_arg5) = m ((c.tc : Thread Cert.KeysRefIdeal.nD Cert.KeysRefIdeal.τ).loc Cert.KeysRefIdeal.main_arg5))
      ∧ r.2.sem = fun _ => 0)

def preserves_Layer_LayerIdeal : Prop :=
  True

def algebraic_LayerIdeal_LayerRefIdeal [hLayerIdeal : Cert.LayerIdeal.Facts] [hLayerRefIdeal : Cert.LayerRefIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)
      ∧ m' ((c.tc : Thread Cert.LayerRefIdeal.nD Cert.LayerRefIdeal.τ).loc Cert.LayerRefIdeal.main_arg11) = m ((c.tc : Thread Cert.LayerIdeal.nD Cert.LayerIdeal.τ).loc Cert.LayerIdeal.main_arg11)
      ∧ m' ((c.tc : Thread Cert.LayerRefIdeal.nD Cert.LayerRefIdeal.τ).loc Cert.LayerRefIdeal.main_arg12) = m ((c.tc : Thread Cert.LayerIdeal.nD Cert.LayerIdeal.τ).loc Cert.LayerIdeal.main_arg12)
      ∧ m' ((c.tc : Thread Cert.LayerRefIdeal.nD Cert.LayerRefIdeal.τ).loc Cert.LayerRefIdeal.main_arg13) = m ((c.tc : Thread Cert.LayerIdeal.nD Cert.LayerIdeal.τ).loc Cert.LayerIdeal.main_arg13)
      ∧ m' ((c.tc : Thread Cert.LayerRefIdeal.nD Cert.LayerRefIdeal.τ).loc Cert.LayerRefIdeal.main_arg14) = m ((c.tc : Thread Cert.LayerIdeal.nD Cert.LayerIdeal.τ).loc Cert.LayerIdeal.main_arg14)
      ∧ m' ((c.tc : Thread Cert.LayerRefIdeal.nD Cert.LayerRefIdeal.τ).loc Cert.LayerRefIdeal.main_arg15) = m ((c.tc : Thread Cert.LayerIdeal.nD Cert.LayerIdeal.τ).loc Cert.LayerIdeal.main_arg15)
      ∧ m' ((c.tc : Thread Cert.LayerRefIdeal.nD Cert.LayerRefIdeal.τ).loc Cert.LayerRefIdeal.main_arg16) = m ((c.tc : Thread Cert.LayerIdeal.nD Cert.LayerIdeal.τ).loc Cert.LayerIdeal.main_arg16)
      ∧ m' ((c.tc : Thread Cert.LayerRefIdeal.nD Cert.LayerRefIdeal.τ).loc Cert.LayerRefIdeal.main_arg17) = m ((c.tc : Thread Cert.LayerIdeal.nD Cert.LayerIdeal.τ).loc Cert.LayerIdeal.main_arg17)) →
    ∃ (v0 : (c : Dev Cert.LayerIdeal.nD) → Buf (Elt Ideal) ((c.tc : Thread Cert.LayerIdeal.nD Cert.LayerIdeal.τ).loc Cert.LayerIdeal.main_v7)) (v1 : (c : Dev Cert.LayerIdeal.nD) → Buf (Elt Ideal) ((c.tc : Thread Cert.LayerIdeal.nD Cert.LayerIdeal.τ).loc Cert.LayerIdeal.main_v8)) (v2 : (c : Dev Cert.LayerIdeal.nD) → Buf (Elt Ideal) ((c.tc : Thread Cert.LayerIdeal.nD Cert.LayerIdeal.τ).loc Cert.LayerIdeal.main_v26)) (v3 : (c : Dev Cert.LayerIdeal.nD) → Buf (Elt Ideal) ((c.tc : Thread Cert.LayerIdeal.nD Cert.LayerIdeal.τ).loc Cert.LayerIdeal.main_v29)) (v4 : (c : Dev Cert.LayerIdeal.nD) → Buf (Elt Ideal) ((c.tc : Thread Cert.LayerIdeal.nD Cert.LayerIdeal.τ).loc Cert.LayerIdeal.main_v34)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v7) = v0 c
          ∧ r.2.mem ((c.tc : Thread Cert.LayerIdeal.nD Cert.LayerIdeal.τ).loc Cert.LayerIdeal.main_v8) = v1 c
          ∧ r.2.mem ((c.tc : Thread Cert.LayerIdeal.nD Cert.LayerIdeal.τ).loc Cert.LayerIdeal.main_v26) = v2 c
          ∧ r.2.mem ((c.tc : Thread Cert.LayerIdeal.nD Cert.LayerIdeal.τ).loc Cert.LayerIdeal.main_v29) = v3 c
          ∧ r.2.mem ((c.tc : Thread Cert.LayerIdeal.nD Cert.LayerIdeal.τ).loc Cert.LayerIdeal.main_v34) = v4 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
          ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
          ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
          ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
          ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
          ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
          ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v153) = v0 c
          ∧ r.2.mem ((c.tc : Thread Cert.LayerRefIdeal.nD Cert.LayerRefIdeal.τ).loc Cert.LayerRefIdeal.main_v154) = v1 c
          ∧ r.2.mem ((c.tc : Thread Cert.LayerRefIdeal.nD Cert.LayerRefIdeal.τ).loc Cert.LayerRefIdeal.main_v157) = v2 c
          ∧ r.2.mem ((c.tc : Thread Cert.LayerRefIdeal.nD Cert.LayerRefIdeal.τ).loc Cert.LayerRefIdeal.main_v161) = v3 c
          ∧ r.2.mem ((c.tc : Thread Cert.LayerRefIdeal.nD Cert.LayerRefIdeal.τ).loc Cert.LayerRefIdeal.main_v162) = v4 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10)
          ∧ r.2.mem ((c.tc : Thread Cert.LayerRefIdeal.nD Cert.LayerRefIdeal.τ).loc Cert.LayerRefIdeal.main_arg11) = m' ((c.tc : Thread Cert.LayerRefIdeal.nD Cert.LayerRefIdeal.τ).loc Cert.LayerRefIdeal.main_arg11)
          ∧ r.2.mem ((c.tc : Thread Cert.LayerRefIdeal.nD Cert.LayerRefIdeal.τ).loc Cert.LayerRefIdeal.main_arg12) = m' ((c.tc : Thread Cert.LayerRefIdeal.nD Cert.LayerRefIdeal.τ).loc Cert.LayerRefIdeal.main_arg12)
          ∧ r.2.mem ((c.tc : Thread Cert.LayerRefIdeal.nD Cert.LayerRefIdeal.τ).loc Cert.LayerRefIdeal.main_arg13) = m' ((c.tc : Thread Cert.LayerRefIdeal.nD Cert.LayerRefIdeal.τ).loc Cert.LayerRefIdeal.main_arg13)
          ∧ r.2.mem ((c.tc : Thread Cert.LayerRefIdeal.nD Cert.LayerRefIdeal.τ).loc Cert.LayerRefIdeal.main_arg14) = m' ((c.tc : Thread Cert.LayerRefIdeal.nD Cert.LayerRefIdeal.τ).loc Cert.LayerRefIdeal.main_arg14)
          ∧ r.2.mem ((c.tc : Thread Cert.LayerRefIdeal.nD Cert.LayerRefIdeal.τ).loc Cert.LayerRefIdeal.main_arg15) = m' ((c.tc : Thread Cert.LayerRefIdeal.nD Cert.LayerRefIdeal.τ).loc Cert.LayerRefIdeal.main_arg15)
          ∧ r.2.mem ((c.tc : Thread Cert.LayerRefIdeal.nD Cert.LayerRefIdeal.τ).loc Cert.LayerRefIdeal.main_arg16) = m' ((c.tc : Thread Cert.LayerRefIdeal.nD Cert.LayerRefIdeal.τ).loc Cert.LayerRefIdeal.main_arg16)
          ∧ r.2.mem ((c.tc : Thread Cert.LayerRefIdeal.nD Cert.LayerRefIdeal.τ).loc Cert.LayerRefIdeal.main_arg17) = m' ((c.tc : Thread Cert.LayerRefIdeal.nD Cert.LayerRefIdeal.τ).loc Cert.LayerRefIdeal.main_arg17))

def preserves_PlePrompt_PlePromptIdeal : Prop :=
  True

def algebraic_PlePromptIdeal_PleRefIdeal [hPlePromptIdeal : Cert.PlePromptIdeal.Facts] [hPleRefIdeal : Cert.PleRefIdeal.Facts] : Prop :=
  ∀ (m : (ℓ : Loc Cert.PlePromptIdeal.nD Cert.PlePromptIdeal.τ Cert.PlePromptIdeal.sig) → Buf (Elt Ideal) ℓ) (g : Dev Cert.PlePromptIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PlePromptIdeal m →
    (∀ c : Dev Cert.PlePromptIdeal.nD,
      m' ((c.tc : Thread Cert.PleRefIdeal.nD Cert.PleRefIdeal.τ).loc Cert.PleRefIdeal.main_arg0) = m ((c.tc : Thread Cert.PlePromptIdeal.nD Cert.PlePromptIdeal.τ).loc Cert.PlePromptIdeal.main_arg0)
      ∧ m' ((c.tc : Thread Cert.PleRefIdeal.nD Cert.PleRefIdeal.τ).loc Cert.PleRefIdeal.main_arg1) = m ((c.tc : Thread Cert.PlePromptIdeal.nD Cert.PlePromptIdeal.τ).loc Cert.PlePromptIdeal.main_arg1)
      ∧ m' ((c.tc : Thread Cert.PleRefIdeal.nD Cert.PleRefIdeal.τ).loc Cert.PleRefIdeal.main_arg2) = m ((c.tc : Thread Cert.PlePromptIdeal.nD Cert.PlePromptIdeal.τ).loc Cert.PlePromptIdeal.main_arg2)
      ∧ m' ((c.tc : Thread Cert.PleRefIdeal.nD Cert.PleRefIdeal.τ).loc Cert.PleRefIdeal.main_arg3) = m ((c.tc : Thread Cert.PlePromptIdeal.nD Cert.PlePromptIdeal.τ).loc Cert.PlePromptIdeal.main_arg3)
      ∧ m' ((c.tc : Thread Cert.PleRefIdeal.nD Cert.PleRefIdeal.τ).loc Cert.PleRefIdeal.main_arg4) = m ((c.tc : Thread Cert.PlePromptIdeal.nD Cert.PlePromptIdeal.τ).loc Cert.PlePromptIdeal.main_arg4)) →
    ∃ (v0 : (c : Dev Cert.PlePromptIdeal.nD) → Buf (Elt Ideal) ((c.tc : Thread Cert.PlePromptIdeal.nD Cert.PlePromptIdeal.τ).loc Cert.PlePromptIdeal.main_v4)),
      θ_run (Cert.PlePromptIdeal.defs (F := Ideal)) (onTc (τ := Cert.PlePromptIdeal.τ) (Cert.PlePromptIdeal.main (F := Ideal))) ⟨m, fun _ => 0, g⟩ (fun r => ∀ c : Dev Cert.PlePromptIdeal.nD,
          r.2.mem ((c.tc : Thread Cert.PlePromptIdeal.nD Cert.PlePromptIdeal.τ).loc Cert.PlePromptIdeal.main_v4) = v0 c
          ∧ r.2.mem ((c.tc : Thread Cert.PlePromptIdeal.nD Cert.PlePromptIdeal.τ).loc Cert.PlePromptIdeal.main_arg0) = m ((c.tc : Thread Cert.PlePromptIdeal.nD Cert.PlePromptIdeal.τ).loc Cert.PlePromptIdeal.main_arg0)
          ∧ r.2.mem ((c.tc : Thread Cert.PlePromptIdeal.nD Cert.PlePromptIdeal.τ).loc Cert.PlePromptIdeal.main_arg1) = m ((c.tc : Thread Cert.PlePromptIdeal.nD Cert.PlePromptIdeal.τ).loc Cert.PlePromptIdeal.main_arg1)
          ∧ r.2.mem ((c.tc : Thread Cert.PlePromptIdeal.nD Cert.PlePromptIdeal.τ).loc Cert.PlePromptIdeal.main_arg2) = m ((c.tc : Thread Cert.PlePromptIdeal.nD Cert.PlePromptIdeal.τ).loc Cert.PlePromptIdeal.main_arg2)
          ∧ r.2.mem ((c.tc : Thread Cert.PlePromptIdeal.nD Cert.PlePromptIdeal.τ).loc Cert.PlePromptIdeal.main_arg3) = m ((c.tc : Thread Cert.PlePromptIdeal.nD Cert.PlePromptIdeal.τ).loc Cert.PlePromptIdeal.main_arg3)
          ∧ r.2.mem ((c.tc : Thread Cert.PlePromptIdeal.nD Cert.PlePromptIdeal.τ).loc Cert.PlePromptIdeal.main_arg4) = m ((c.tc : Thread Cert.PlePromptIdeal.nD Cert.PlePromptIdeal.τ).loc Cert.PlePromptIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v18) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Keys_KeysIdeal : Prop :=
  True

def algebraic_KeysIdeal_KeysRefIdeal_pre_finite [hKeysIdeal : Cert.KeysIdeal.Facts] [hKeysRefIdeal : Cert.KeysRefIdeal.Facts] [hPre_finite : Cert.Pre_finite.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal_finite m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)
      ∧ m' ((c.tc : Thread Cert.KeysRefIdeal.nD Cert.KeysRefIdeal.τ).loc Cert.KeysRefIdeal.main_arg3) = m ((c.tc : Thread Cert.KeysIdeal.nD Cert.KeysIdeal.τ).loc Cert.KeysIdeal.main_arg3)
      ∧ m' ((c.tc : Thread Cert.KeysRefIdeal.nD Cert.KeysRefIdeal.τ).loc Cert.KeysRefIdeal.main_arg4) = m ((c.tc : Thread Cert.KeysIdeal.nD Cert.KeysIdeal.τ).loc Cert.KeysIdeal.main_arg4)
      ∧ m' ((c.tc : Thread Cert.KeysRefIdeal.nD Cert.KeysRefIdeal.τ).loc Cert.KeysRefIdeal.main_arg5) = m ((c.tc : Thread Cert.KeysIdeal.nD Cert.KeysIdeal.τ).loc Cert.KeysIdeal.main_arg5)) →
    ∃ (v0 : (c : Dev Cert.KeysIdeal.nD) → Buf (Elt Ideal) ((c.tc : Thread Cert.KeysIdeal.nD Cert.KeysIdeal.τ).loc Cert.KeysIdeal.main_v53_1)) (v1 : (c : Dev Cert.KeysIdeal.nD) → Buf (Elt Ideal) ((c.tc : Thread Cert.KeysIdeal.nD Cert.KeysIdeal.τ).loc Cert.KeysIdeal.main_v53_3)) (v2 : (c : Dev Cert.KeysIdeal.nD) → Buf (Elt Ideal) ((c.tc : Thread Cert.KeysIdeal.nD Cert.KeysIdeal.τ).loc Cert.KeysIdeal.main_v101_1)) (v3 : (c : Dev Cert.KeysIdeal.nD) → Buf (Elt Ideal) ((c.tc : Thread Cert.KeysIdeal.nD Cert.KeysIdeal.τ).loc Cert.KeysIdeal.main_v101_3)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v53_1) = v0 c
          ∧ r.2.mem ((c.tc : Thread Cert.KeysIdeal.nD Cert.KeysIdeal.τ).loc Cert.KeysIdeal.main_v53_3) = v1 c
          ∧ r.2.mem ((c.tc : Thread Cert.KeysIdeal.nD Cert.KeysIdeal.τ).loc Cert.KeysIdeal.main_v101_1) = v2 c
          ∧ r.2.mem ((c.tc : Thread Cert.KeysIdeal.nD Cert.KeysIdeal.τ).loc Cert.KeysIdeal.main_v101_3) = v3 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
          ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v75) = v0 c
          ∧ r.2.mem ((c.tc : Thread Cert.KeysRefIdeal.nD Cert.KeysRefIdeal.τ).loc Cert.KeysRefIdeal.main_v76) = v1 c
          ∧ r.2.mem ((c.tc : Thread Cert.KeysRefIdeal.nD Cert.KeysRefIdeal.τ).loc Cert.KeysRefIdeal.main_v154) = v2 c
          ∧ r.2.mem ((c.tc : Thread Cert.KeysRefIdeal.nD Cert.KeysRefIdeal.τ).loc Cert.KeysRefIdeal.main_v155) = v3 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2)
          ∧ r.2.mem ((c.tc : Thread Cert.KeysRefIdeal.nD Cert.KeysRefIdeal.τ).loc Cert.KeysRefIdeal.main_arg3) = m' ((c.tc : Thread Cert.KeysRefIdeal.nD Cert.KeysRefIdeal.τ).loc Cert.KeysRefIdeal.main_arg3)
          ∧ r.2.mem ((c.tc : Thread Cert.KeysRefIdeal.nD Cert.KeysRefIdeal.τ).loc Cert.KeysRefIdeal.main_arg4) = m' ((c.tc : Thread Cert.KeysRefIdeal.nD Cert.KeysRefIdeal.τ).loc Cert.KeysRefIdeal.main_arg4)
          ∧ r.2.mem ((c.tc : Thread Cert.KeysRefIdeal.nD Cert.KeysRefIdeal.τ).loc Cert.KeysRefIdeal.main_arg5) = m' ((c.tc : Thread Cert.KeysRefIdeal.nD Cert.KeysRefIdeal.τ).loc Cert.KeysRefIdeal.main_arg5))

def Claim : Prop :=
  ∃ (hLayer : Cert.Layer.Facts) (hLayerIdeal : Cert.LayerIdeal.Facts) (hLayerRefIdeal : Cert.LayerRefIdeal.Facts) (hPlePrompt : Cert.PlePrompt.Facts) (hPlePromptIdeal : Cert.PlePromptIdeal.Facts) (hPleRefIdeal : Cert.PleRefIdeal.Facts) (hKeys : Cert.Keys.Facts) (hKeysIdeal : Cert.KeysIdeal.Facts) (hKeysRefIdeal : Cert.KeysRefIdeal.Facts) (hPre_finite : Cert.Pre_finite.Facts),
    quiescent_Layer (hLayer := hLayer)
    ∧ quiescent_LayerIdeal (hLayerIdeal := hLayerIdeal)
    ∧ quiescent_LayerRefIdeal (hLayerRefIdeal := hLayerRefIdeal)
    ∧ quiescent_PlePrompt (hPlePrompt := hPlePrompt)
    ∧ quiescent_PlePromptIdeal (hPlePromptIdeal := hPlePromptIdeal)
    ∧ quiescent_PleRefIdeal (hPleRefIdeal := hPleRefIdeal)
    ∧ quiescent_Keys (hKeys := hKeys)
    ∧ quiescent_KeysIdeal (hKeysIdeal := hKeysIdeal)
    ∧ quiescent_KeysIdeal_pre_finite (hKeysIdeal := hKeysIdeal) (hPre_finite := hPre_finite)
    ∧ quiescent_KeysRefIdeal (hKeysRefIdeal := hKeysRefIdeal)
    ∧ quiescent_KeysRefIdeal_pre_finite (hKeysRefIdeal := hKeysRefIdeal) (hPre_finite := hPre_finite)
    ∧ preserves_Layer_LayerIdeal
    ∧ algebraic_LayerIdeal_LayerRefIdeal (hLayerIdeal := hLayerIdeal) (hLayerRefIdeal := hLayerRefIdeal)
    ∧ preserves_PlePrompt_PlePromptIdeal
    ∧ algebraic_PlePromptIdeal_PleRefIdeal (hPlePromptIdeal := hPlePromptIdeal) (hPleRefIdeal := hPleRefIdeal)
    ∧ preserves_Keys_KeysIdeal
    ∧ algebraic_KeysIdeal_KeysRefIdeal_pre_finite (hKeysIdeal := hKeysIdeal) (hKeysRefIdeal := hKeysRefIdeal) (hPre_finite := hPre_finite)
-- ==== Pre_finite.lean ====
abbrev S4x2048x4096 : Shape := ⟨3, ![4, 2048, 4096]⟩
abbrev S8x32x4096 : Shape := ⟨3, ![8, 32, 4096]⟩
abbrev S1x4096 : Shape := ⟨2, ![1, 4096]⟩
abbrev S1x4096x20832 : Shape := ⟨3, ![1, 4096, 20832]⟩
abbrev S1x64 : Shape := ⟨2, ![1, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x32x4096 : S_.BroadcastsInDim S8x32x4096 (![] : Fin 0 → Fin S8x32x4096.rank)
  reducesTo_S8x32x4096_S_d0_1_2 : S8x32x4096.ReducesTo [0, 1, 2] S_
  bcast_S_S1x4096 : S_.BroadcastsInDim S1x4096 (![] : Fin 0 → Fin S1x4096.rank)
  reducesTo_S1x4096_S_d0_1 : S1x4096.ReducesTo [0, 1] S_
  bcast_S_S1x4096x20832 : S_.BroadcastsInDim S1x4096x20832 (![] : Fin 0 → Fin S1x4096x20832.rank)
  reducesTo_S1x4096x20832_S_d0_1_2 : S1x4096x20832.ReducesTo [0, 1, 2] S_

variable [Facts]

def fn_part1 {F : FTy → Type} [FloatOps F] (main_v13 : IVec S_ 1) (main_v16 : IVec S1x4096x20832 1) : IVec S_ 1 :=
  let main_c_5 : IVec S_ 1 := constantI S_ 1 1#1
  let main_v17 : IVec S_ 1 := (fun x v => Host.reduce IntOp.andi x v reducesTo_S1x4096x20832_S_d0_1_2 h_S_) main_v16 main_c_5
  let main_v18 : IVec S_ 1 := andi main_v13 main_v17
  main_v18

def fn {F : FTy → Type} [FloatOps F] (main_arg0 : FVec F S4x2048x4096 .f32) (main_arg1 : FVec F S8x32x4096 .f32) (main_arg2 : FVec F S1x4096 .f32) (main_arg3 : FVec F S1x4096x20832 .f32) (main_arg4 : FVec F S1x64 .f32) (main_arg5 : FVec F S1x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x32x4096 .f32 := Host.absf main_arg1
  let main_cst_0 : FVec F S_ .f32 := constant S_ .f32 0x7F800000#32
  let main_v5 : FVec F S8x32x4096 .f32 := broadcastInDim S8x32x4096 ![] bcast_S_S8x32x4096 main_cst_0
  let main_v6 : IVec S8x32x4096 1 := cmpf .olt main_v4 main_v5
  let main_c_1 : IVec S_ 1 := constantI S_ 1 1#1
  let main_v7 : IVec S_ 1 := (fun x v => Host.reduce IntOp.andi x v reducesTo_S8x32x4096_S_d0_1_2 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096x20832 .f32 := Host.absf main_arg3
  let main_cst_4 : FVec F S_ .f32 := constant S_ .f32 0x7F800000#32
  let main_v15 : FVec F S1x4096x20832 .f32 := broadcastInDim S1x4096x20832 ![] bcast_S_S1x4096x20832 main_cst_4
  let main_v16 : IVec S1x4096x20832 1 := cmpf .olt main_v14 main_v15
  fn_part1 (F := F) main_v13 main_v16
-- ==== Layer.lean ====
abbrev S4x2048x4096 : Shape := ⟨3, ![4, 2048, 4096]⟩
abbrev S8x32x4096 : Shape := ⟨3, ![8, 32, 4096]⟩
abbrev S1x8x32x256 : Shape := ⟨4, ![1, 8, 32, 256]⟩
abbrev S1x4096 : Shape := ⟨2, ![1, 4096]⟩
abbrev S1x4096x20832 : Shape := ⟨3, ![1, 4096, 20832]⟩
abbrev S4x2048x2048 : Shape := ⟨3, ![4, 2048, 2048]⟩
abbrev S8x32x2048 : Shape := ⟨3, ![8, 32, 2048]⟩
abbrev S1x2048x4096 : Shape := ⟨3, ![1, 2048, 4096]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S1x256x4096 : Shape := ⟨3, ![1, 256, 4096]⟩
abbrev S8192x4096 : Shape := ⟨2, ![8192, 4096]⟩
abbrev S256x4096 : Shape := ⟨2, ![256, 4096]⟩
abbrev S4096 : Shape := ⟨1, ![4096]⟩
abbrev S8448x4096 : Shape := ⟨2, ![8448, 4096]⟩
abbrev S256 : Shape := ⟨1, ![256]⟩
abbrev S256x1 : Shape := ⟨2, ![256, 1]⟩
abbrev S4096x20832 : Shape := ⟨2, ![4096, 20832]⟩
abbrev S20832x4096 : Shape := ⟨2, ![20832, 4096]⟩
abbrev S8448x6656 : Shape := ⟨2, ![8448, 6656]⟩
abbrev S1408x4096 : Shape := ⟨2, ![1408, 4096]⟩
abbrev S512x4096 : Shape := ⟨2, ![512, 4096]⟩
abbrev S1408x512 : Shape := ⟨2, ![1408, 512]⟩
abbrev S8448x14336 : Shape := ⟨2, ![8448, 14336]⟩
abbrev S8192x2048 : Shape := ⟨2, ![8192, 2048]⟩
abbrev S256x2048 : Shape := ⟨2, ![256, 2048]⟩
abbrev S8448x2048 : Shape := ⟨2, ![8448, 2048]⟩
abbrev S2048x4096 : Shape := ⟨2, ![2048, 4096]⟩
abbrev S1408x2048 : Shape := ⟨2, ![1408, 2048]⟩
abbrev S2048x256 : Shape := ⟨2, ![2048, 256]⟩
abbrev S1408x256 : Shape := ⟨2, ![1408, 256]⟩
abbrev S4096x4096 : Shape := ⟨2, ![4096, 4096]⟩
abbrev S4096x256 : Shape := ⟨2, ![4096, 256]⟩
abbrev S4096x16384 : Shape := ⟨2, ![4096, 16384]⟩
abbrev S8448x16384 : Shape := ⟨2, ![8448, 16384]⟩
abbrev S4096x512 : Shape := ⟨2, ![4096, 512]⟩
abbrev S16384x4096 : Shape := ⟨2, ![16384, 4096]⟩
abbrev S1408x1024 : Shape := ⟨2, ![1408, 1024]⟩
abbrev S1024x1024 : Shape := ⟨2, ![1024, 1024]⟩
abbrev S8x32x256 : Shape := ⟨3, ![8, 32, 256]⟩
abbrev S256x256 : Shape := ⟨2, ![256, 256]⟩
abbrev S256x512 : Shape := ⟨2, ![256, 512]⟩

abbrev nBuf : Space → Nat
  | .hbm => 54
  | .vmem => 77
  | .smem => 0
  | _ => 0

abbrev bufTy : (tb : Table) → Fin (tcTables nBuf tb) → BufTy
  | .hbm, ⟨0, _⟩ => ⟨S4x2048x4096, .f32⟩
  | .hbm, ⟨1, _⟩ => ⟨S8x32x4096, .f32⟩
  | .hbm, ⟨2, _⟩ => ⟨S1x8x32x256, .f32⟩
  | .hbm, ⟨3, _⟩ => ⟨S1x4096, .f32⟩
  | .hbm, ⟨4, _⟩ => ⟨S1x4096x20832, .f32⟩
  | .hbm, ⟨5, _⟩ => ⟨S4x2048x2048, .bf16⟩
  | .hbm, ⟨6, _⟩ => ⟨S8x32x2048, .bf16⟩
  | .hbm, ⟨7, _⟩ => ⟨S4x2048x2048, .bf16⟩
  | .hbm, ⟨8, _⟩ => ⟨S8x32x2048, .bf16⟩
  | .hbm, ⟨9, _⟩ => ⟨S1x2048x4096, .f32⟩
  | .hbm, ⟨10, _⟩ => ⟨S1x2048x4096, .f32⟩
  | .hbm, ⟨11, _⟩ => ⟨S1x4096x4096, .f32⟩
  | .hbm, ⟨12, _⟩ => ⟨S1x4096, .f32⟩
  | .hbm, ⟨13, _⟩ => ⟨S1x4096x16384, .f32⟩
  | .hbm, ⟨14, _⟩ => ⟨S1x16384x4096, .f32⟩
  | .hbm, ⟨15, _⟩ => ⟨S1x4096, .f32⟩
  | .hbm, ⟨16, _⟩ => ⟨S1x4096x4096, .f32⟩
  | .hbm, ⟨17, _⟩ => ⟨S1x256x4096, .f32⟩
  | .hbm, ⟨18, _⟩ => ⟨S8192x4096, .f32⟩
  | .hbm, ⟨19, _⟩ => ⟨S256x4096, .f32⟩
  | .hbm, ⟨20, _⟩ => ⟨S4096, .f32⟩
  | .hbm, ⟨21, _⟩ => ⟨S1x4096, .f32⟩
  | .hbm, ⟨22, _⟩ => ⟨S8448x4096, .f32⟩
  | .hbm, ⟨23, _⟩ => ⟨S8448x4096, .bf16⟩
  | .hbm, ⟨24, _⟩ => ⟨S4096x20832, .f32⟩
  | .hbm, ⟨25, _⟩ => ⟨S20832x4096, .f32⟩
  | .hbm, ⟨26, _⟩ => ⟨S8448x6656, .f32⟩
  | .hbm, ⟨27, _⟩ => ⟨S8448x14336, .f32⟩
  | .hbm, ⟨28, _⟩ => ⟨S8192x2048, .bf16⟩
  | .hbm, ⟨29, _⟩ => ⟨S256x2048, .bf16⟩
  | .hbm, ⟨30, _⟩ => ⟨S8448x2048, .bf16⟩
  | .hbm, ⟨31, _⟩ => ⟨S8192x2048, .bf16⟩
  | .hbm, ⟨32, _⟩ => ⟨S256x2048, .bf16⟩
  | .hbm, ⟨33, _⟩ => ⟨S8448x2048, .bf16⟩
  | .hbm, ⟨34, _⟩ => ⟨S2048x4096, .f32⟩
  | .hbm, ⟨35, _⟩ => ⟨S2048x4096, .f32⟩
  | .hbm, ⟨36, _⟩ => ⟨S8448x4096, .bf16⟩
  | .hbm, ⟨37, _⟩ => ⟨S4096x4096, .f32⟩
  | .hbm, ⟨38, _⟩ => ⟨S8448x4096, .f32⟩
  | .hbm, ⟨39, _⟩ => ⟨S4096, .f32⟩
  | .hbm, ⟨40, _⟩ => ⟨S1x4096, .f32⟩
  | .hbm, ⟨41, _⟩ => ⟨S8448x4096, .bf16⟩
  | .hbm, ⟨42, _⟩ => ⟨S4096x16384, .f32⟩
  | .hbm, ⟨43, _⟩ => ⟨S8448x16384, .bf16⟩
  | .hbm, ⟨44, _⟩ => ⟨S16384x4096, .f32⟩
  | .hbm, ⟨45, _⟩ => ⟨S8448x4096, .f32⟩
  | .hbm, ⟨46, _⟩ => ⟨S4096, .f32⟩
  | .hbm, ⟨47, _⟩ => ⟨S1x4096, .f32⟩
  | .hbm, ⟨48, _⟩ => ⟨S8448x4096, .bf16⟩
  | .hbm, ⟨49, _⟩ => ⟨S8x32x256, .f32⟩
  | .hbm, ⟨50, _⟩ => ⟨S256x256, .f32⟩
  | .hbm, ⟨51, _⟩ => ⟨S4096x4096, .f32⟩
  | .hbm, ⟨52, _⟩ => ⟨S256x4096, .f32⟩
  | .hbm, ⟨53, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S1408x4096, .bf16⟩
  | .local _ .vmem, ⟨10, _⟩ => ⟨S1408x4096, .bf16⟩
  | .local _ .vmem, ⟨11, _⟩ => ⟨S512x4096, .f32⟩
  | .local _ .vmem, ⟨12, _⟩ => ⟨S512x4096, .f32⟩
  | .local _ .vmem, ⟨13, _⟩ => ⟨S1408x512, .f32⟩
  | .local _ .vmem, ⟨14, _⟩ => ⟨S1408x512, .f32⟩
  | .local _ .vmem, ⟨15, _⟩ => ⟨S1408x4096, .bf16⟩
  | .local _ .vmem, ⟨16, _⟩ => ⟨S1408x4096, .bf16⟩
  | .local _ .vmem, ⟨17, _⟩ => ⟨S512x4096, .f32⟩
  | .local _ .vmem, ⟨18, _⟩ => ⟨S512x4096, .f32⟩
  | .local _ .vmem, ⟨19, _⟩ => ⟨S1408x512, .f32⟩
  | .local _ .vmem, ⟨20, _⟩ => ⟨S1408x512, .f32⟩
  | .local _ .vmem, ⟨21, _⟩ => ⟨S1408x2048, .bf16⟩
  | .local _ .vmem, ⟨22, _⟩ => ⟨S1408x2048, .bf16⟩
  | .local _ .vmem, ⟨23, _⟩ => ⟨S1408x2048, .bf16⟩
  | .local _ .vmem, ⟨24, _⟩ => ⟨S1408x2048, .bf16⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S1408x256, .f32⟩
  | .local _ .vmem, ⟨30, _⟩ => ⟨S1408x256, .f32⟩
  | .local _ .vmem, ⟨31, _⟩ => ⟨S1408x256, .f32⟩
  | .local _ .vmem, ⟨32, _⟩ => ⟨S1408x256, .f32⟩
  | .local _ .vmem, ⟨33, _⟩ => ⟨S1408x256, .bf16⟩
  | .local _ .vmem, ⟨34, _⟩ => ⟨S1408x256, .bf16⟩
  | .local _ .vmem, ⟨35, _⟩ => ⟨S1408x4096, .bf16⟩
  | .local _ .vmem, ⟨36, _⟩ => ⟨S1408x4096, .bf16⟩
  | .local _ .vmem, ⟨37, _⟩ => ⟨S4096x256, .f32⟩
  | .local _ .vmem, ⟨38, _⟩ => ⟨S4096x256, .f32⟩
  | .local _ .vmem, ⟨39, _⟩ => ⟨S1408x256, .f32⟩
  | .local _ .vmem, ⟨40, _⟩ => ⟨S1408x256, .f32⟩
  | .local _ .vmem, ⟨41, _⟩ => ⟨S1408x256, .f32⟩
  | .local _ .vmem, ⟨42, _⟩ => ⟨S1408x256, .f32⟩
  | .local _ .vmem, ⟨43, _⟩ => ⟨S256x4096, .f32⟩
  | .local _ .vmem, ⟨44, _⟩ => ⟨S256x4096, .f32⟩
  | .local _ .vmem, ⟨45, _⟩ => ⟨S1x4096, .f32⟩
  | .local _ .vmem, ⟨46, _⟩ => ⟨S256x4096, .bf16⟩
  | .local _ .vmem, ⟨47, _⟩ => ⟨S256x4096, .bf16⟩
  | .local _ .vmem, ⟨48, _⟩ => ⟨S1408x4096, .bf16⟩
  | .local _ .vmem, ⟨49, _⟩ => ⟨S1408x4096, .bf16⟩
  | .local _ .vmem, ⟨50, _⟩ => ⟨S4096x512, .f32⟩
  | .local _ .vmem, ⟨51, _⟩ => ⟨S4096x512, .f32⟩
  | .local _ .vmem, ⟨52, _⟩ => ⟨S1408x512, .bf16⟩
  | .local _ .vmem, ⟨53, _⟩ => ⟨S1408x512, .bf16⟩
  | .local _ .vmem, ⟨54, _⟩ => ⟨S1408x1024, .bf16⟩
  | .local _ .vmem, ⟨55, _⟩ => ⟨S1408x1024, .bf16⟩
  | .local _ .vmem, ⟨56, _⟩ => ⟨S1024x1024, .f32⟩
  | .local _ .vmem, ⟨57, _⟩ => ⟨S1024x1024, .f32⟩
  | .local _ .vmem, ⟨58, _⟩ => ⟨S1408x1024, .f32⟩
  | .local _ .vmem, ⟨59, _⟩ => ⟨S1408x1024, .f32⟩
  | .local _ .vmem, ⟨60, _⟩ => ⟨S1408x1024, .f32⟩
  | .local _ .vmem, ⟨61, _⟩ => ⟨S1408x1024, .f32⟩
  | .local _ .vmem, ⟨62, _⟩ => ⟨S256x4096, .f32⟩
  | .local _ .vmem, ⟨63, _⟩ => ⟨S256x4096, .f32⟩
  | .local _ .vmem, ⟨64, _⟩ => ⟨S1x4096, .f32⟩
  | .local _ .vmem, ⟨65, _⟩ => ⟨S256x4096, .bf16⟩
  | .local _ .vmem, ⟨66, _⟩ => ⟨S256x4096, .bf16⟩
  | .local _ .vmem, ⟨67, _⟩ => ⟨S256x4096, .bf16⟩
  | .local _ .vmem, ⟨68, _⟩ => ⟨S4096x512, .f32⟩
  | .local _ .vmem, ⟨69, _⟩ => ⟨S4096x512, .f32⟩
  | .local _ .vmem, ⟨70, _⟩ => ⟨S256x256, .f32⟩
  | .local _ .vmem, ⟨71, _⟩ => ⟨S256x512, .f32⟩
  | .local _ .vmem, ⟨72, _⟩ => ⟨S256x512, .f32⟩
  | .local _ .vmem, ⟨73, _⟩ => ⟨S256x512, .f32⟩
  | .local _ .vmem, ⟨74, _⟩ => ⟨S256x512, .f32⟩
  | .local _ .vmem, ⟨75, _⟩ => ⟨S256x512, .f32⟩
  | .local _ .vmem, ⟨76, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg2_1 : Ref sig .tc := ⟨.vmem, 66, rfl⟩
abbrev cc9_stg0_0 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg3_1 : Ref sig .tc := ⟨.vmem, 72, rfl⟩
abbrev cc9_stg4_0 : Ref sig .tc := ⟨.vmem, 73, rfl⟩
abbrev cc9_stg4_1 : Ref sig .tc := ⟨.vmem, 74, rfl⟩
abbrev cc9_stg5_0 : Ref sig .tc := ⟨.vmem, 75, rfl⟩
abbrev cc9_stg5_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem2_1 : DmaSem sig := 66
abbrev cc9_sem0_0 : DmaSem sig := 67
abbrev cc9_sem1_0 : DmaSem sig := 68
abbrev cc9_sem1_1 : DmaSem sig := 69
abbrev cc9_sem2_0 : DmaSem sig := 70
abbrev cc9_sem3_0 : DmaSem sig := 71
abbrev cc9_sem3_1 : DmaSem sig := 72
abbrev cc9_sem4_0 : DmaSem sig := 73
abbrev cc9_sem4_1 : DmaSem sig := 74
abbrev cc9_sem5_0 : DmaSem sig := 75
abbrev cc9_sem5_1 : DmaSem sig := 76

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![6, 13], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32 : BitVec 32 := 0#32
  let v1 : BitVec 32 := Scalar.addi c0_i32 v0
  let c8_i32 : BitVec 32 := 8#32
  let v2 : BitVec 32 := Scalar.muli v1 c8_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1408x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![6, 28], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c812_i32 : BitVec 32 := 812#32
  let v1 : BitVec 32 := Scalar.addi c812_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1408x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![6, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1408x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1408x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1408x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1408x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![6, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1408x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1408x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![33], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![6, 32], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1408x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1408x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨3, ![6, 4, 16], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1408x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1408x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1408x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨1, ![33], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x4096 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S256x4096 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_4 (i : grid9.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S256x4096 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S4096x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev stage9_3 : Fin 2 → Memref sig .tc .vmem S256x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 2 → Memref sig .tc .vmem S256x512 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S256x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]
-- ==== LayerRefIdeal.lean ====
abbrev S4x2048x4096 : Shape := ⟨3, ![4, 2048, 4096]⟩
abbrev S8x32x4096 : Shape := ⟨3, ![8, 32, 4096]⟩
abbrev S1x8x32x256 : Shape := ⟨4, ![1, 8, 32, 256]⟩
abbrev S1x4096 : Shape := ⟨2, ![1, 4096]⟩
abbrev S1x4096x20832 : Shape := ⟨3, ![1, 4096, 20832]⟩
abbrev S4x2048x2048 : Shape := ⟨3, ![4, 2048, 2048]⟩
abbrev S8x32x2048 : Shape := ⟨3, ![8, 32, 2048]⟩
abbrev S1x2048x4096 : Shape := ⟨3, ![1, 2048, 4096]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S1x256x4096 : Shape := ⟨3, ![1, 256, 4096]⟩
abbrev S2048x4096 : Shape := ⟨2, ![2048, 4096]⟩
abbrev S4096x4096 : Shape := ⟨2, ![4096, 4096]⟩
abbrev S4096 : Shape := ⟨1, ![4096]⟩
abbrev S4096x16384 : Shape := ⟨2, ![4096, 16384]⟩
abbrev S16384x4096 : Shape := ⟨2, ![16384, 4096]⟩
abbrev S4096x20832 : Shape := ⟨2, ![4096, 20832]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x20832 : Shape := ⟨3, ![4, 2048, 20832]⟩
abbrev S4x2048x8192 : Shape := ⟨3, ![4, 2048, 8192]⟩
abbrev S4x2048x16384 : Shape := ⟨3, ![4, 2048, 16384]⟩
abbrev S8x32 : Shape := ⟨2, ![8, 32]⟩
abbrev S8x32x1 : Shape := ⟨3, ![8, 32, 1]⟩
abbrev S8x32x20832 : Shape := ⟨3, ![8, 32, 20832]⟩
abbrev S8x32x8192 : Shape := ⟨3, ![8, 32, 8192]⟩
abbrev S8x32x16384 : Shape := ⟨3, ![8, 32, 16384]⟩
abbrev S8x32x256 : Shape := ⟨3, ![8, 32, 256]⟩
abbrev S256x4096 : Shape := ⟨2, ![256, 4096]⟩
abbrev S8192x20832 : Shape := ⟨2, ![8192, 20832]⟩
abbrev S256x20832 : Shape := ⟨2, ![256, 20832]⟩
abbrev S8448x20832 : Shape := ⟨2, ![8448, 20832]⟩
abbrev S8448x6656 : Shape := ⟨2, ![8448, 6656]⟩
abbrev S8448x14336 : Shape := ⟨2, ![8448, 14336]⟩
abbrev S8192x4096 : Shape := ⟨2, ![8192, 4096]⟩
abbrev S8448x4096 : Shape := ⟨2, ![8448, 4096]⟩

abbrev nBuf : Space → Nat
  | .hbm => 209
  | .vmem => 0
  | .smem => 0
  | _ => 0

abbrev hbmTy0_0 (i : Nat) : BufTy := match i % 128 with
  | 0 => ⟨S4x2048x4096, .f32⟩
  | 1 => ⟨S8x32x4096, .f32⟩
  | 2 => ⟨S1x8x32x256, .f32⟩
  | 3 => ⟨S1x4096, .f32⟩
  | 4 => ⟨S1x4096x20832, .f32⟩
  | 5 => ⟨S4x2048x2048, .bf16⟩
  | 6 => ⟨S8x32x2048, .bf16⟩
  | 7 => ⟨S4x2048x2048, .bf16⟩
  | 8 => ⟨S8x32x2048, .bf16⟩
  | 9 => ⟨S1x2048x4096, .f32⟩
  | 10 => ⟨S1x2048x4096, .f32⟩
  | 11 => ⟨S1x4096x4096, .f32⟩
  | 12 => ⟨S1x4096, .f32⟩
  | 13 => ⟨S1x4096x16384, .f32⟩
  | 14 => ⟨S1x16384x4096, .f32⟩
  | 15 => ⟨S1x4096, .f32⟩
  | 16 => ⟨S1x4096x4096, .f32⟩
  | 17 => ⟨S1x256x4096, .f32⟩
  | 18 => ⟨S2048x4096, .f32⟩
  | 19 => ⟨S2048x4096, .f32⟩
  | 20 => ⟨S4096x4096, .f32⟩
  | 21 => ⟨S4096, .f32⟩
  | 22 => ⟨S4096x16384, .f32⟩
  | 23 => ⟨S16384x4096, .f32⟩
  | 24 => ⟨S4096, .f32⟩
  | 25 => ⟨S4096, .f32⟩
  | 26 => ⟨S4096x20832, .f32⟩
  | 27 => ⟨S4x2048x4096, .f32⟩
  | 28 => ⟨S_, .f32⟩
  | 29 => ⟨S4x2048, .f32⟩
  | 30 => ⟨S4x2048x1, .f32⟩
  | 31 => ⟨S_, .f32⟩
  | 32 => ⟨S4x2048x1, .f32⟩
  | 33 => ⟨S4x2048x1, .f32⟩
  | 34 => ⟨S_, .f32⟩
  | 35 => ⟨S4x2048x1, .f32⟩
  | 36 => ⟨S4x2048x1, .f32⟩
  | 37 => ⟨S4x2048x1, .f32⟩
  | 38 => ⟨S4x2048x4096, .f32⟩
  | 39 => ⟨S4x2048x4096, .f32⟩
  | 40 => ⟨S1x1x4096, .f32⟩
  | 41 => ⟨S4x2048x4096, .f32⟩
  | 42 => ⟨S4x2048x4096, .f32⟩
  | 43 => ⟨S4x2048x20832, .f32⟩
  | 44 => ⟨S4x2048x8192, .f32⟩
  | 45 => ⟨S4x2048x8192, .f32⟩
  | 46 => ⟨S4x2048x8192, .f32⟩
  | 47 => ⟨S_, .f32⟩
  | 48 => ⟨S4x2048x8192, .f32⟩
  | 49 => ⟨S4x2048x8192, .f32⟩
  | 50 => ⟨S_, .f32⟩
  | 51 => ⟨S4x2048x8192, .f32⟩
  | 52 => ⟨S4x2048x8192, .f32⟩
  | 53 => ⟨S4x2048x4096, .f32⟩
  | 54 => ⟨S4x2048x2048, .f32⟩
  | 55 => ⟨S4x2048x4096, .f32⟩
  | 56 => ⟨S4x2048x4096, .f32⟩
  | 57 => ⟨S4x2048x4096, .f32⟩
  | 58 => ⟨S4x2048x2048, .f32⟩
  | 59 => ⟨S4x2048x4096, .f32⟩
  | 60 => ⟨S4x2048x4096, .f32⟩
  | 61 => ⟨S4x2048x4096, .f32⟩
  | 62 => ⟨S4x2048x4096, .f32⟩
  | 63 => ⟨S4x2048x4096, .f32⟩
  | 64 => ⟨S4x2048x4096, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x1, .f32⟩
  | 75 => ⟨S4x2048x4096, .f32⟩
  | 76 => ⟨S4x2048x4096, .f32⟩
  | 77 => ⟨S1x1x4096, .f32⟩
  | 78 => ⟨S4x2048x4096, .f32⟩
  | 79 => ⟨S4x2048x4096, .f32⟩
  | 80 => ⟨S4x2048x16384, .f32⟩
  | 81 => ⟨S_, .f32⟩
  | 82 => ⟨S4x2048x16384, .f32⟩
  | 83 => ⟨S4x2048x16384, .f32⟩
  | 84 => ⟨S4x2048x16384, .f32⟩
  | 85 => ⟨S4x2048x4096, .f32⟩
  | 86 => ⟨S4x2048x4096, .f32⟩
  | 87 => ⟨S4x2048x4096, .f32⟩
  | 88 => ⟨S_, .f32⟩
  | 89 => ⟨S4x2048, .f32⟩
  | 90 => ⟨S4x2048x1, .f32⟩
  | 91 => ⟨S_, .f32⟩
  | 92 => ⟨S4x2048x1, .f32⟩
  | 93 => ⟨S4x2048x1, .f32⟩
  | 94 => ⟨S_, .f32⟩
  | 95 => ⟨S4x2048x1, .f32⟩
  | 96 => ⟨S4x2048x1, .f32⟩
  | 97 => ⟨S4x2048x1, .f32⟩
  | 98 => ⟨S4x2048x4096, .f32⟩
  | 99 => ⟨S4x2048x4096, .f32⟩
  | 100 => ⟨S1x1x4096, .f32⟩
  | 101 => ⟨S4x2048x4096, .f32⟩
  | 102 => ⟨S4x2048x4096, .f32⟩
  | 103 => ⟨S4096, .f32⟩
  | 104 => ⟨S4096x20832, .f32⟩
  | 105 => ⟨S8x32x4096, .f32⟩
  | 106 => ⟨S_, .f32⟩
  | 107 => ⟨S8x32, .f32⟩
  | 108 => ⟨S8x32x1, .f32⟩
  | 109 => ⟨S_, .f32⟩
  | 110 => ⟨S8x32x1, .f32⟩
  | 111 => ⟨S8x32x1, .f32⟩
  | 112 => ⟨S_, .f32⟩
  | 113 => ⟨S8x32x1, .f32⟩
  | 114 => ⟨S8x32x1, .f32⟩
  | 115 => ⟨S8x32x1, .f32⟩
  | 116 => ⟨S8x32x4096, .f32⟩
  | 117 => ⟨S8x32x4096, .f32⟩
  | 118 => ⟨S1x1x4096, .f32⟩
  | 119 => ⟨S8x32x4096, .f32⟩
  | 120 => ⟨S8x32x4096, .f32⟩
  | 121 => ⟨S8x32x20832, .f32⟩
  | 122 => ⟨S8x32x8192, .f32⟩
  | 123 => ⟨S8x32x8192, .f32⟩
  | 124 => ⟨S8x32x8192, .f32⟩
  | 125 => ⟨S_, .f32⟩
  | 126 => ⟨S8x32x8192, .f32⟩
  | 127 => ⟨S8x32x8192, .f32⟩
  | _ => ⟨S4x2048x4096, .f32⟩

abbrev hbmTy0_1 (i : Nat) : BufTy := match i % 128 with
  | 0 => ⟨S_, .f32⟩
  | 1 => ⟨S8x32x8192, .f32⟩
  | 2 => ⟨S8x32x8192, .f32⟩
  | 3 => ⟨S8x32x4096, .f32⟩
  | 4 => ⟨S8x32x2048, .f32⟩
  | 5 => ⟨S8x32x4096, .f32⟩
  | 6 => ⟨S8x32x4096, .f32⟩
  | 7 => ⟨S8x32x4096, .f32⟩
  | 8 => ⟨S8x32x2048, .f32⟩
  | 9 => ⟨S8x32x4096, .f32⟩
  | 10 => ⟨S8x32x4096, .f32⟩
  | 11 => ⟨S8x32x4096, .f32⟩
  | 12 => ⟨S8x32x4096, .f32⟩
  | 13 => ⟨S8x32x4096, .f32⟩
  | 14 => ⟨S8x32x4096, .f32⟩
  | 15 => ⟨S_, .f32⟩
  | 16 => ⟨S8x32, .f32⟩
  | 17 => ⟨S8x32x1, .f32⟩
  | 18 => ⟨S_, .f32⟩
  | 19 => ⟨S8x32x1, .f32⟩
  | 20 => ⟨S8x32x1, .f32⟩
  | 21 => ⟨S_, .f32⟩
  | 22 => ⟨S8x32x1, .f32⟩
  | 23 => ⟨S8x32x1, .f32⟩
  | 24 => ⟨S8x32x1, .f32⟩
  | 25 => ⟨S8x32x4096, .f32⟩
  | 26 => ⟨S8x32x4096, .f32⟩
  | 27 => ⟨S1x1x4096, .f32⟩
  | 28 => ⟨S8x32x4096, .f32⟩
  | 29 => ⟨S8x32x4096, .f32⟩
  | 30 => ⟨S8x32x16384, .f32⟩
  | 31 => ⟨S_, .f32⟩
  | 32 => ⟨S8x32x16384, .f32⟩
  | 33 => ⟨S8x32x16384, .f32⟩
  | 34 => ⟨S8x32x16384, .f32⟩
  | 35 => ⟨S8x32x4096, .f32⟩
  | 36 => ⟨S8x32x4096, .f32⟩
  | 37 => ⟨S8x32x4096, .f32⟩
  | 38 => ⟨S_, .f32⟩
  | 39 => ⟨S8x32, .f32⟩
  | 40 => ⟨S8x32x1, .f32⟩
  | 41 => ⟨S_, .f32⟩
  | 42 => ⟨S8x32x1, .f32⟩
  | 43 => ⟨S8x32x1, .f32⟩
  | 44 => ⟨S_, .f32⟩
  | 45 => ⟨S8x32x1, .f32⟩
  | 46 => ⟨S8x32x1, .f32⟩
  | 47 => ⟨S8x32x1, .f32⟩
  | 48 => ⟨S8x32x4096, .f32⟩
  | 49 => ⟨S8x32x4096, .f32⟩
  | 50 => ⟨S1x1x4096, .f32⟩
  | 51 => ⟨S8x32x4096, .f32⟩
  | 52 => ⟨S8x32x4096, .f32⟩
  | 53 => ⟨S8x32x256, .f32⟩
  | 54 => ⟨S4096x4096, .f32⟩
  | 55 => ⟨S8x32x4096, .f32⟩
  | 56 => ⟨S8x32x4096, .f32⟩
  | 57 => ⟨S8x32x4096, .f32⟩
  | 58 => ⟨S_, .f32⟩
  | 59 => ⟨S8x32x4096, .f32⟩
  | 60 => ⟨S8x32x4096, .f32⟩
  | 61 => ⟨S_, .f32⟩
  | 62 => ⟨S8x32x4096, .f32⟩
  | 63 => ⟨S8x32x4096, .f32⟩
  | 64 => ⟨S256x4096, .f32⟩
  | 65 => ⟨S8x32x4096, .f32⟩
  | 66 => ⟨S8x32x4096, .f32⟩
  | 67 => ⟨S8x32x4096, .f32⟩
  | 68 => ⟨S8192x20832, .f32⟩
  | 69 => ⟨S256x20832, .f32⟩
  | 70 => ⟨S8448x20832, .f32⟩
  | 71 => ⟨S8448x6656, .f32⟩
  | 72 => ⟨S8448x14336, .f32⟩
  | 73 => ⟨S8192x4096, .f32⟩
  | 74 => ⟨S256x4096, .f32⟩
  | 75 => ⟨S8448x4096, .f32⟩
  | 76 => ⟨S8192x4096, .f32⟩
  | 77 => ⟨S256x4096, .f32⟩
  | 78 => ⟨S8448x4096, .f32⟩
  | 79 => ⟨S8448x4096, .bf16⟩
  | 80 => ⟨S256x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call0_cst : Ref sig .tc := ⟨.hbm, 81, rfl⟩
abbrev main_call0_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_7 : Ref sig .tc := ⟨.hbm, 88, rfl⟩
abbrev main_v60 : Ref sig .tc := ⟨.hbm, 89, rfl⟩
abbrev main_v61 : Ref sig .tc := ⟨.hbm, 90, rfl⟩
abbrev main_cst_8 : Ref sig .tc := ⟨.hbm, 91, rfl⟩
abbrev main_v62 : Ref sig .tc := ⟨.hbm, 92, rfl⟩
abbrev main_v63 : Ref sig .tc := ⟨.hbm, 93, rfl⟩
abbrev main_cst_9 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_cst_14 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_15 : Ref sig .tc := ⟨.hbm, 143, rfl⟩
abbrev main_v107 : Ref sig .tc := ⟨.hbm, 144, rfl⟩
abbrev main_v108 : Ref sig .tc := ⟨.hbm, 145, rfl⟩
abbrev main_cst_16 : Ref sig .tc := ⟨.hbm, 146, rfl⟩
abbrev main_v109 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_call1_cst : Ref sig .tc := ⟨.hbm, 159, rfl⟩
abbrev main_call1_v0 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_18 : Ref sig .tc := ⟨.hbm, 166, rfl⟩
abbrev main_v125 : Ref sig .tc := ⟨.hbm, 167, rfl⟩
abbrev main_v126 : Ref sig .tc := ⟨.hbm, 168, rfl⟩
abbrev main_cst_19 : Ref sig .tc := ⟨.hbm, 169, rfl⟩
abbrev main_v127 : Ref sig .tc := ⟨.hbm, 170, rfl⟩
abbrev main_v128 : Ref sig .tc := ⟨.hbm, 171, rfl⟩
abbrev main_cst_20 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_21 : Ref sig .tc := ⟨.hbm, 186, rfl⟩
abbrev main_v142 : Ref sig .tc := ⟨.hbm, 187, rfl⟩
abbrev main_v143 : Ref sig .tc := ⟨.hbm, 188, rfl⟩
abbrev main_cst_22 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩

abbrev nD : Nat := 1
abbrev τ : Topo := Topo.v7x

variable {F : FTy → Type} [FloatOps F]
-- ==== PlePrompt.lean ====
abbrev S8448x4096 : Shape := ⟨2, ![8448, 4096]⟩
abbrev S1x4x2048x256 : Shape := ⟨4, ![1, 4, 2048, 256]⟩
abbrev S1x4096x4096 : Shape := ⟨3, ![1, 4096, 4096]⟩
abbrev S1x256x4096 : Shape := ⟨3, ![1, 256, 4096]⟩
abbrev S4x2048x256 : Shape := ⟨3, ![4, 2048, 256]⟩
abbrev S8192x256 : Shape := ⟨2, ![8192, 256]⟩
abbrev S4096x4096 : Shape := ⟨2, ![4096, 4096]⟩
abbrev S256x4096 : Shape := ⟨2, ![256, 4096]⟩
abbrev S8192x4096 : Shape := ⟨2, ![8192, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S8448x4096, .f32⟩
  | .hbm, ⟨2, _⟩ => ⟨S1x4x2048x256, .f32⟩
  | .hbm, ⟨3, _⟩ => ⟨S1x4096x4096, .f32⟩
  | .hbm, ⟨4, _⟩ => ⟨S1x256x4096, .f32⟩
  | .hbm, ⟨5, _⟩ => ⟨S4x2048x256, .f32⟩
  | .hbm, ⟨6, _⟩ => ⟨S8192x256, .f32⟩
  | .hbm, ⟨7, _⟩ => ⟨S4096x4096, .f32⟩
  | .hbm, ⟨8, _⟩ => ⟨S256x4096, .f32⟩
  | .hbm, ⟨9, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x256, .f32⟩
  | .local _ .vmem, ⟨5, _⟩ => ⟨S1024x256, .f32⟩
  | .local _ .vmem, ⟨6, _⟩ => ⟨S256x512, .f32⟩
  | .local _ .vmem, ⟨7, _⟩ => ⟨S256x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8448x4096 : Shape := ⟨2, ![8448, 4096]⟩
abbrev S1x4x2048x256 : Shape := ⟨4, ![1, 4, 2048, 256]⟩
abbrev S1x4096x4096 : Shape := ⟨3, ![1, 4096, 4096]⟩
abbrev S1x256x4096 : Shape := ⟨3, ![1, 256, 4096]⟩
abbrev S8192x4096 : Shape := ⟨2, ![8192, 4096]⟩
abbrev S4x2048x4096 : Shape := ⟨3, ![4, 2048, 4096]⟩
abbrev S4x2048x256 : Shape := ⟨3, ![4, 2048, 256]⟩
abbrev S4096x4096 : Shape := ⟨2, ![4096, 4096]⟩
abbrev S_ : Shape := ⟨0, ![]⟩
abbrev S256x4096 : Shape := ⟨2, ![256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x4096, .f32⟩
  | .hbm, ⟨2, _⟩ => ⟨S1x4x2048x256, .f32⟩
  | .hbm, ⟨3, _⟩ => ⟨S1x4096x4096, .f32⟩
  | .hbm, ⟨4, _⟩ => ⟨S1x256x4096, .f32⟩
  | .hbm, ⟨5, _⟩ => ⟨S8192x4096, .bf16⟩
  | .hbm, ⟨6, _⟩ => ⟨S8192x4096, .f32⟩
  | .hbm, ⟨7, _⟩ => ⟨S4x2048x4096, .f32⟩
  | .hbm, ⟨8, _⟩ => ⟨S8192x4096, .f32⟩
  | .hbm, ⟨9, _⟩ => ⟨S4x2048x4096, .f32⟩
  | .hbm, ⟨10, _⟩ => ⟨S4x2048x256, .f32⟩
  | .hbm, ⟨11, _⟩ => ⟨S4096x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S256x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S8192x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Keys.lean ====
abbrev S4x2048x4096 : Shape := ⟨3, ![4, 2048, 4096]⟩
abbrev S8x32x4096 : Shape := ⟨3, ![8, 32, 4096]⟩
abbrev S1x4096 : Shape := ⟨2, ![1, 4096]⟩
abbrev S1x4096x20832 : Shape := ⟨3, ![1, 4096, 20832]⟩
abbrev S1x64 : Shape := ⟨2, ![1, 64]⟩
abbrev S8192x4096 : Shape := ⟨2, ![8192, 4096]⟩
abbrev S256x4096 : Shape := ⟨2, ![256, 4096]⟩
abbrev S4096 : Shape := ⟨1, ![4096]⟩
abbrev S8448x4096 : Shape := ⟨2, ![8448, 4096]⟩
abbrev S256 : Shape := ⟨1, ![256]⟩
abbrev S256x1 : Shape := ⟨2, ![256, 1]⟩
abbrev S4096x20832 : Shape := ⟨2, ![4096, 20832]⟩
abbrev S20832x4096 : Shape := ⟨2, ![20832, 4096]⟩
abbrev S8448x14336 : Shape := ⟨2, ![8448, 14336]⟩
abbrev S1408x4096 : Shape := ⟨2, ![1408, 4096]⟩
abbrev S512x4096 : Shape := ⟨2, ![512, 4096]⟩
abbrev S1408x512 : Shape := ⟨2, ![1408, 512]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S64 : Shape := ⟨1, ![64]⟩
abbrev S128 : Shape := ⟨1, ![128]⟩
abbrev S1x128 : Shape := ⟨2, ![1, 128]⟩
abbrev S8192x2048 : Shape := ⟨2, ![8192, 2048]⟩
abbrev S256x512 : Shape := ⟨2, ![256, 512]⟩
abbrev S256x128 : Shape := ⟨2, ![256, 128]⟩
abbrev S256x256 : Shape := ⟨2, ![256, 256]⟩
abbrev S32 : Shape := ⟨1, ![32]⟩
abbrev S32x1 : Shape := ⟨2, ![32, 1]⟩
abbrev S32x8 : Shape := ⟨2, ![32, 8]⟩
abbrev S32x48 : Shape := ⟨2, ![32, 48]⟩
abbrev S32x64 : Shape := ⟨2, ![32, 64]⟩
abbrev S32x128 : Shape := ⟨2, ![32, 128]⟩
abbrev S1x32x1x128 : Shape := ⟨4, ![1, 32, 1, 128]⟩
abbrev S8x32x1x128 : Shape := ⟨4, ![8, 32, 1, 128]⟩
abbrev S256x2048 : Shape := ⟨2, ![256, 2048]⟩

abbrev nBuf : Space → Nat
  | .hbm => 132
  | .vmem => 60
  | .smem => 0
  | _ => 0

abbrev hbmTy0_0 (i : Nat) : BufTy := match i % 128 with
  | 0 => ⟨S4x2048x4096, .f32⟩
  | 1 => ⟨S8x32x4096, .f32⟩
  | 2 => ⟨S1x4096, .f32⟩
  | 3 => ⟨S1x4096x20832, .f32⟩
  | 4 => ⟨S1x64, .f32⟩
  | 5 => ⟨S1x64, .f32⟩
  | 6 => ⟨S8192x4096, .f32⟩
  | 7 => ⟨S256x4096, .f32⟩
  | 8 => ⟨S4096, .f32⟩
  | 9 => ⟨S1x4096, .f32⟩
  | 10 => ⟨S8448x4096, .f32⟩
  | 11 => ⟨S8448x4096, .bf16⟩
  | 12 => ⟨S4096x20832, .f32⟩
  | 13 => ⟨S20832x4096, .f32⟩
  | 14 => ⟨S8448x14336, .f32⟩
  | 15 => ⟨S2048, .i32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S2048, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S2048x8, .f32⟩
  | 37 => ⟨S2048x8, .f32⟩
  | 38 => ⟨S_, .f32⟩
  | 39 => ⟨S2048x48, .f32⟩
  | 40 => ⟨S_, .f32⟩
  | 41 => ⟨S2048x8, .f32⟩
  | 42 => ⟨S_, .f32⟩
  | 43 => ⟨S2048x48, .f32⟩
  | 44 => ⟨S2048x48, .f32⟩
  | 45 => ⟨S2048x64, .f32⟩
  | 46 => ⟨S2048x8, .f32⟩
  | 47 => ⟨S2048x64, .f32⟩
  | 48 => ⟨S2048x64, .f32⟩
  | 49 => ⟨S2048x128, .f32⟩
  | 50 => ⟨S2048x128, .f32⟩
  | 51 => ⟨S2048x128, .f32⟩
  | 52 => ⟨S1x2048x1x128, .f32⟩
  | 53 => ⟨S4x2048x1x128, .f32⟩
  | 54 => ⟨S8192x128, .f32⟩
  | 55 => ⟨S1x2048x1x128, .f32⟩
  | 56 => ⟨S4x2048x1x128, .f32⟩
  | 57 => ⟨S8192x128, .f32⟩
  | 58 => ⟨S1x2048x1x128, .f32⟩
  | 59 => ⟨S4x2048x1x128, .f32⟩
  | 60 => ⟨S8192x128, .f32⟩
  | 61 => ⟨S64, .f32⟩
  | 62 => ⟨S64, .f32⟩
  | 63 => ⟨S128, .f32⟩
  | 64 => ⟨S1x128, .f32⟩
  | 65 => ⟨S128, .f32⟩
  | 66 => ⟨S1x128, .f32⟩
  | 67 => ⟨S8192x2048, .bf16⟩
  | 68 => ⟨S8192x2048, .f32⟩
  | 69 => ⟨S8192x2048, .bf16⟩
  | 70 => ⟨S8192x2048, .f32⟩
  | 71 => ⟨S8192x2048, .bf16⟩
  | 72 => ⟨S32, .i32⟩
  | 73 => ⟨S_, .i32⟩
  | 74 => ⟨S32, .i32⟩
  | 75 => ⟨S32, .i32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S32, .f32⟩
  | 91 => ⟨S32x1, .f32⟩
  | 92 => ⟨S1x8, .f32⟩
  | 93 => ⟨S32x8, .f32⟩
  | 94 => ⟨S32x8, .f32⟩
  | 95 => ⟨S32x8, .f32⟩
  | 96 => ⟨S32x8, .f32⟩
  | 97 => ⟨S32x8, .f32⟩
  | 98 => ⟨S_, .f32⟩
  | 99 => ⟨S32x48, .f32⟩
  | 100 => ⟨S_, .f32⟩
  | 101 => ⟨S32x8, .f32⟩
  | 102 => ⟨S_, .f32⟩
  | 103 => ⟨S32x48, .f32⟩
  | 104 => ⟨S32x48, .f32⟩
  | 105 => ⟨S32x64, .f32⟩
  | 106 => ⟨S32x8, .f32⟩
  | 107 => ⟨S32x64, .f32⟩
  | 108 => ⟨S32x64, .f32⟩
  | 109 => ⟨S32x128, .f32⟩
  | 110 => ⟨S32x128, .f32⟩
  | 111 => ⟨S32x128, .f32⟩
  | 112 => ⟨S1x32x1x128, .f32⟩
  | 113 => ⟨S8x32x1x128, .f32⟩
  | 114 => ⟨S256x128, .f32⟩
  | 115 => ⟨S1x32x1x128, .f32⟩
  | 116 => ⟨S8x32x1x128, .f32⟩
  | 117 => ⟨S256x128, .f32⟩
  | 118 => ⟨S1x32x1x128, .f32⟩
  | 119 => ⟨S8x32x1x128, .f32⟩
  | 120 => ⟨S256x128, .f32⟩
  | 121 => ⟨S64, .f32⟩
  | 122 => ⟨S64, .f32⟩
  | 123 => ⟨S128, .f32⟩
  | 124 => ⟨S1x128, .f32⟩
  | 125 => ⟨S128, .f32⟩
  | 126 => ⟨S1x128, .f32⟩
  | 127 => ⟨S256x2048, .bf16⟩
  | _ => ⟨S4x2048x4096, .f32⟩

abbrev hbmTy0_1 (i : Nat) : BufTy := match i % 128 with
  | 0 => ⟨S256x2048, .f32⟩
  | 1 => ⟨S256x2048, .bf16⟩
  | 2 => ⟨S256x2048, .f32⟩
  | 3 => ⟨S256x2048, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S1408x4096, .bf16⟩
  | .local _ .vmem, ⟨10, _⟩ => ⟨S1408x4096, .bf16⟩
  | .local _ .vmem, ⟨11, _⟩ => ⟨S512x4096, .f32⟩
  | .local _ .vmem, ⟨12, _⟩ => ⟨S512x4096, .f32⟩
  | .local _ .vmem, ⟨13, _⟩ => ⟨S1408x512, .f32⟩
  | .local _ .vmem, ⟨14, _⟩ => ⟨S1408x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S1x128, .f32⟩
  | .local _ .vmem, ⟨28, _⟩ => ⟨S1x128, .f32⟩
  | .local _ .vmem, ⟨29, _⟩ => ⟨S256x512, .bf16⟩
  | .local _ .vmem, ⟨30, _⟩ => ⟨S256x512, .bf16⟩
  | .local _ .vmem, ⟨31, _⟩ => ⟨S256x512, .f32⟩
  | .local _ .vmem, ⟨32, _⟩ => ⟨S256x512, .f32⟩
  | .local _ .vmem, ⟨33, _⟩ => ⟨S256x512, .bf16⟩
  | .local _ .vmem, ⟨34, _⟩ => ⟨S256x512, .bf16⟩
  | .local _ .vmem, ⟨35, _⟩ => ⟨S256x512, .f32⟩
  | .local _ .vmem, ⟨36, _⟩ => ⟨S256x512, .f32⟩
  | .local _ .vmem, ⟨37, _⟩ => ⟨S256x512, .bf16⟩
  | .local _ .vmem, ⟨38, _⟩ => ⟨S256x512, .bf16⟩
  | .local _ .vmem, ⟨39, _⟩ => ⟨S256x512, .f32⟩
  | .local _ .vmem, ⟨40, _⟩ => ⟨S256x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x128, .f32⟩
  | .local _ .vmem, ⟨46, _⟩ => ⟨S256x128, .f32⟩
  | .local _ .vmem, ⟨47, _⟩ => ⟨S256x128, .f32⟩
  | .local _ .vmem, ⟨48, _⟩ => ⟨S1x128, .f32⟩
  | .local _ .vmem, ⟨49, _⟩ => ⟨S1x128, .f32⟩
  | .local _ .vmem, ⟨50, _⟩ => ⟨S256x512, .bf16⟩
  | .local _ .vmem, ⟨51, _⟩ => ⟨S256x512, .bf16⟩
  | .local _ .vmem, ⟨52, _⟩ => ⟨S256x512, .f32⟩
  | .local _ .vmem, ⟨53, _⟩ => ⟨S256x512, .f32⟩
  | .local _ .vmem, ⟨54, _⟩ => ⟨S256x512, .bf16⟩
  | .local _ .vmem, ⟨55, _⟩ => ⟨S256x512, .bf16⟩
  | .local _ .vmem, ⟨56, _⟩ => ⟨S256x512, .f32⟩
  | .local _ .vmem, ⟨57, _⟩ => ⟨S256x512, .f32⟩
  | .local _ .vmem, ⟨58, _⟩ => ⟨S256x512, .bf16⟩
  | .local _ .vmem, ⟨59, _⟩ => ⟨S256x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v54 : Ref sig .tc := ⟨.hbm, 72, rfl⟩
abbrev main_c : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101_0 : Ref sig .tc := ⟨.hbm, 127, rfl⟩
abbrev main_v101_1 : Ref sig .tc := ⟨.hbm, 128, rfl⟩
abbrev main_v101_2 : Ref sig .tc := ⟨.hbm, 129, rfl⟩
abbrev main_v101_3 : Ref sig .tc := ⟨.hbm, 130, rfl⟩
abbrev main_v101_4 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc2_stg10_0 : Ref sig .tc := ⟨.vmem, 33, rfl⟩
abbrev cc2_stg10_1 : Ref sig .tc := ⟨.vmem, 34, rfl⟩
abbrev cc2_stg11_0 : Ref sig .tc := ⟨.vmem, 35, rfl⟩
abbrev cc2_stg11_1 : Ref sig .tc := ⟨.vmem, 36, rfl⟩
abbrev cc2_stg12_0 : Ref sig .tc := ⟨.vmem, 37, rfl⟩
abbrev cc2_stg12_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc3_stg9_0 : Ref sig .tc := ⟨.vmem, 52, rfl⟩
abbrev cc3_stg9_1 : Ref sig .tc := ⟨.vmem, 53, rfl⟩
abbrev cc3_stg10_0 : Ref sig .tc := ⟨.vmem, 54, rfl⟩
abbrev cc3_stg10_1 : Ref sig .tc := ⟨.vmem, 55, rfl⟩
abbrev cc3_stg11_0 : Ref sig .tc := ⟨.vmem, 56, rfl⟩
abbrev cc3_stg11_1 : Ref sig .tc := ⟨.vmem, 57, rfl⟩
abbrev cc3_stg12_0 : Ref sig .tc := ⟨.vmem, 58, rfl⟩
abbrev cc3_stg12_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem7_0 : DmaSem sig := 28
abbrev cc2_sem8_0 : DmaSem sig := 29
abbrev cc2_sem8_1 : DmaSem sig := 30
abbrev cc2_sem9_0 : DmaSem sig := 31
abbrev cc2_sem9_1 : DmaSem sig := 32
abbrev cc2_sem10_0 : DmaSem sig := 33
abbrev cc2_sem10_1 : DmaSem sig := 34
abbrev cc2_sem11_0 : DmaSem sig := 35
abbrev cc2_sem11_1 : DmaSem sig := 36
abbrev cc2_sem12_0 : DmaSem sig := 37
abbrev cc2_sem12_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51
abbrev cc3_sem9_0 : DmaSem sig := 52
abbrev cc3_sem9_1 : DmaSem sig := 53
abbrev cc3_sem10_0 : DmaSem sig := 54
abbrev cc3_sem10_1 : DmaSem sig := 55
abbrev cc3_sem11_0 : DmaSem sig := 56
abbrev cc3_sem11_1 : DmaSem sig := 57
abbrev cc3_sem12_0 : DmaSem sig := 58
abbrev cc3_sem12_1 : DmaSem sig := 59

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![6, 28], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c812_i32 : BitVec 32 := 812#32
  let v1 : BitVec 32 := Scalar.addi c812_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1408x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S256x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S256x512 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S256x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S256x512 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c4_i32 : BitVec 32 := 4#32
  let v1 : BitVec 32 := Scalar.addi c4_i32 arg1
  let c0_i32 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c8_i32 : BitVec 32 := 8#32
  let v1 : BitVec 32 := Scalar.addi c8_i32 arg1
  let c0_i32 : BitVec 32 := 0#32
  ![v0.toNat, v1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S256x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x512 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S256x512 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S256x512 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]
-- ==== KeysRefIdeal.lean ====
abbrev S4x2048x4096 : Shape := ⟨3, ![4, 2048, 4096]⟩
abbrev S8x32x4096 : Shape := ⟨3, ![8, 32, 4096]⟩
abbrev S1x4096 : Shape := ⟨2, ![1, 4096]⟩
abbrev S1x4096x20832 : Shape := ⟨3, ![1, 4096, 20832]⟩
abbrev S1x64 : Shape := ⟨2, ![1, 64]⟩
abbrev S4096 : Shape := ⟨1, ![4096]⟩
abbrev S4096x20832 : Shape := ⟨2, ![4096, 20832]⟩
abbrev S64 : Shape := ⟨1, ![64]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x20832 : Shape := ⟨3, ![4, 2048, 20832]⟩
abbrev S4x2048x2048 : Shape := ⟨3, ![4, 2048, 2048]⟩
abbrev S4x2048x16x2x64 : Shape := ⟨5, ![4, 2048, 16, 2, 64]⟩
abbrev S4x2048x16x128 : Shape := ⟨4, ![4, 2048, 16, 128]⟩
abbrev S4x2048x16x2 : Shape := ⟨4, ![4, 2048, 16, 2]⟩
abbrev S4x2048x16x2x1 : Shape := ⟨5, ![4, 2048, 16, 2, 1]⟩
abbrev S1x1x1x1x64 : Shape := ⟨5, ![1, 1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x1x8 : Shape := ⟨4, ![2048, 1, 1, 8]⟩
abbrev S4x2048x16x2x16 : Shape := ⟨5, ![4, 2048, 16, 2, 16]⟩
abbrev S4x2048x16x2x8 : Shape := ⟨5, ![4, 2048, 16, 2, 8]⟩
abbrev S1x2048x1x1x8 : Shape := ⟨5, ![1, 2048, 1, 1, 8]⟩
abbrev S4x2048x16x2x48 : Shape := ⟨5, ![4, 2048, 16, 2, 48]⟩
abbrev S8192x2048 : Shape := ⟨2, ![8192, 2048]⟩
abbrev S32 : Shape := ⟨1, ![32]⟩
abbrev S8x32 : Shape := ⟨2, ![8, 32]⟩
abbrev S8x32x1 : Shape := ⟨3, ![8, 32, 1]⟩
abbrev S8x32x20832 : Shape := ⟨3, ![8, 32, 20832]⟩
abbrev S8x32x2048 : Shape := ⟨3, ![8, 32, 2048]⟩
abbrev S8x32x16x2x64 : Shape := ⟨5, ![8, 32, 16, 2, 64]⟩
abbrev S8x32x16x128 : Shape := ⟨4, ![8, 32, 16, 128]⟩
abbrev S8x32x16x2 : Shape := ⟨4, ![8, 32, 16, 2]⟩
abbrev S8x32x16x2x1 : Shape := ⟨5, ![8, 32, 16, 2, 1]⟩
abbrev S32x1 : Shape := ⟨2, ![32, 1]⟩
abbrev S32x8 : Shape := ⟨2, ![32, 8]⟩
abbrev S32x1x1x8 : Shape := ⟨4, ![32, 1, 1, 8]⟩
abbrev S8x32x16x2x16 : Shape := ⟨5, ![8, 32, 16, 2, 16]⟩
abbrev S8x32x16x2x8 : Shape := ⟨5, ![8, 32, 16, 2, 8]⟩
abbrev S1x32x1x1x8 : Shape := ⟨5, ![1, 32, 1, 1, 8]⟩
abbrev S8x32x16x2x48 : Shape := ⟨5, ![8, 32, 16, 2, 48]⟩
abbrev S256x2048 : Shape := ⟨2, ![256, 2048]⟩

abbrev nBuf : Space → Nat
  | .hbm => 183
  | .vmem => 0
  | .smem => 0
  | _ => 0

abbrev hbmTy0_0 (i : Nat) : BufTy := match i % 128 with
  | 0 => ⟨S4x2048x4096, .f32⟩
  | 1 => ⟨S8x32x4096, .f32⟩
  | 2 => ⟨S1x4096, .f32⟩
  | 3 => ⟨S1x4096x20832, .f32⟩
  | 4 => ⟨S1x64, .f32⟩
  | 5 => ⟨S1x64, .f32⟩
  | 6 => ⟨S4096, .f32⟩
  | 7 => ⟨S4096x20832, .f32⟩
  | 8 => ⟨S64, .f32⟩
  | 9 => ⟨S2048, .i32⟩
  | 10 => ⟨S4x2048x4096, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x4096, .f32⟩
  | 22 => ⟨S4x2048x4096, .f32⟩
  | 23 => ⟨S1x1x4096, .f32⟩
  | 24 => ⟨S4x2048x4096, .f32⟩
  | 25 => ⟨S4x2048x4096, .f32⟩
  | 26 => ⟨S4x2048x20832, .f32⟩
  | 27 => ⟨S4x2048x2048, .f32⟩
  | 28 => ⟨S4x2048x16x2x64, .f32⟩
  | 29 => ⟨S4x2048x2048, .f32⟩
  | 30 => ⟨S4x2048x16x128, .f32⟩
  | 31 => ⟨S4x2048x16x2x64, .f32⟩
  | 32 => ⟨S_, .f32⟩
  | 33 => ⟨S4x2048x16x2, .f32⟩
  | 34 => ⟨S4x2048x16x2x1, .f32⟩
  | 35 => ⟨S_, .f32⟩
  | 36 => ⟨S4x2048x16x2x1, .f32⟩
  | 37 => ⟨S4x2048x16x2x1, .f32⟩
  | 38 => ⟨S_, .f32⟩
  | 39 => ⟨S4x2048x16x2x1, .f32⟩
  | 40 => ⟨S4x2048x16x2x1, .f32⟩
  | 41 => ⟨S4x2048x16x2x1, .f32⟩
  | 42 => ⟨S4x2048x16x2x64, .f32⟩
  | 43 => ⟨S4x2048x16x2x64, .f32⟩
  | 44 => ⟨S1x1x1x1x64, .f32⟩
  | 45 => ⟨S4x2048x16x2x64, .f32⟩
  | 46 => ⟨S4x2048x16x2x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S2048, .f32⟩
  | 62 => ⟨S2048x1, .f32⟩
  | 63 => ⟨S1x8, .f32⟩
  | 64 => ⟨S2048x8, .f32⟩
  | 65 => ⟨S2048x8, .f32⟩
  | 66 => ⟨S2048x8, .f32⟩
  | 67 => ⟨S2048x8, .f32⟩
  | 68 => ⟨S2048x1x1x8, .f32⟩
  | 69 => ⟨S2048x8, .f32⟩
  | 70 => ⟨S2048x1x1x8, .f32⟩
  | 71 => ⟨S4x2048x16x2x16, .f32⟩
  | 72 => ⟨S4x2048x16x2x8, .f32⟩
  | 73 => ⟨S4x2048x16x2x8, .f32⟩
  | 74 => ⟨S1x2048x1x1x8, .f32⟩
  | 75 => ⟨S4x2048x16x2x8, .f32⟩
  | 76 => ⟨S4x2048x16x2x8, .f32⟩
  | 77 => ⟨S1x2048x1x1x8, .f32⟩
  | 78 => ⟨S4x2048x16x2x8, .f32⟩
  | 79 => ⟨S4x2048x16x2x8, .f32⟩
  | 80 => ⟨S4x2048x16x2x8, .f32⟩
  | 81 => ⟨S1x2048x1x1x8, .f32⟩
  | 82 => ⟨S4x2048x16x2x8, .f32⟩
  | 83 => ⟨S4x2048x16x2x8, .f32⟩
  | 84 => ⟨S1x2048x1x1x8, .f32⟩
  | 85 => ⟨S4x2048x16x2x8, .f32⟩
  | 86 => ⟨S4x2048x16x2x8, .f32⟩
  | 87 => ⟨S4x2048x16x2x8, .f32⟩
  | 88 => ⟨S4x2048x16x2x16, .f32⟩
  | 89 => ⟨S4x2048x16x2x48, .f32⟩
  | 90 => ⟨S4x2048x16x2x64, .f32⟩
  | 91 => ⟨S8192x2048, .f32⟩
  | 92 => ⟨S8192x2048, .f32⟩
  | 93 => ⟨S4096, .f32⟩
  | 94 => ⟨S4096x20832, .f32⟩
  | 95 => ⟨S64, .f32⟩
  | 96 => ⟨S32, .i32⟩
  | 97 => ⟨S_, .i32⟩
  | 98 => ⟨S32, .i32⟩
  | 99 => ⟨S32, .i32⟩
  | 100 => ⟨S8x32x4096, .f32⟩
  | 101 => ⟨S_, .f32⟩
  | 102 => ⟨S8x32, .f32⟩
  | 103 => ⟨S8x32x1, .f32⟩
  | 104 => ⟨S_, .f32⟩
  | 105 => ⟨S8x32x1, .f32⟩
  | 106 => ⟨S8x32x1, .f32⟩
  | 107 => ⟨S_, .f32⟩
  | 108 => ⟨S8x32x1, .f32⟩
  | 109 => ⟨S8x32x1, .f32⟩
  | 110 => ⟨S8x32x1, .f32⟩
  | 111 => ⟨S8x32x4096, .f32⟩
  | 112 => ⟨S8x32x4096, .f32⟩
  | 113 => ⟨S1x1x4096, .f32⟩
  | 114 => ⟨S8x32x4096, .f32⟩
  | 115 => ⟨S8x32x4096, .f32⟩
  | 116 => ⟨S8x32x20832, .f32⟩
  | 117 => ⟨S8x32x2048, .f32⟩
  | 118 => ⟨S8x32x16x2x64, .f32⟩
  | 119 => ⟨S8x32x2048, .f32⟩
  | 120 => ⟨S8x32x16x128, .f32⟩
  | 121 => ⟨S8x32x16x2x64, .f32⟩
  | 122 => ⟨S_, .f32⟩
  | 123 => ⟨S8x32x16x2, .f32⟩
  | 124 => ⟨S8x32x16x2x1, .f32⟩
  | 125 => ⟨S_, .f32⟩
  | 126 => ⟨S8x32x16x2x1, .f32⟩
  | 127 => ⟨S8x32x16x2x1, .f32⟩
  | _ => ⟨S4x2048x4096, .f32⟩

abbrev hbmTy0_1 (i : Nat) : BufTy := match i % 128 with
  | 0 => ⟨S_, .f32⟩
  | 1 => ⟨S8x32x16x2x1, .f32⟩
  | 2 => ⟨S8x32x16x2x1, .f32⟩
  | 3 => ⟨S8x32x16x2x1, .f32⟩
  | 4 => ⟨S8x32x16x2x64, .f32⟩
  | 5 => ⟨S8x32x16x2x64, .f32⟩
  | 6 => ⟨S1x1x1x1x64, .f32⟩
  | 7 => ⟨S8x32x16x2x64, .f32⟩
  | 8 => ⟨S8x32x16x2x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S32, .f32⟩
  | 24 => ⟨S32x1, .f32⟩
  | 25 => ⟨S1x8, .f32⟩
  | 26 => ⟨S32x8, .f32⟩
  | 27 => ⟨S32x8, .f32⟩
  | 28 => ⟨S32x8, .f32⟩
  | 29 => ⟨S32x8, .f32⟩
  | 30 => ⟨S32x1x1x8, .f32⟩
  | 31 => ⟨S32x8, .f32⟩
  | 32 => ⟨S32x1x1x8, .f32⟩
  | 33 => ⟨S8x32x16x2x16, .f32⟩
  | 34 => ⟨S8x32x16x2x8, .f32⟩
  | 35 => ⟨S8x32x16x2x8, .f32⟩
  | 36 => ⟨S1x32x1x1x8, .f32⟩
  | 37 => ⟨S8x32x16x2x8, .f32⟩
  | 38 => ⟨S8x32x16x2x8, .f32⟩
  | 39 => ⟨S1x32x1x1x8, .f32⟩
  | 40 => ⟨S8x32x16x2x8, .f32⟩
  | 41 => ⟨S8x32x16x2x8, .f32⟩
  | 42 => ⟨S8x32x16x2x8, .f32⟩
  | 43 => ⟨S1x32x1x1x8, .f32⟩
  | 44 => ⟨S8x32x16x2x8, .f32⟩
  | 45 => ⟨S8x32x16x2x8, .f32⟩
  | 46 => ⟨S1x32x1x1x8, .f32⟩
  | 47 => ⟨S8x32x16x2x8, .f32⟩
  | 48 => ⟨S8x32x16x2x8, .f32⟩
  | 49 => ⟨S8x32x16x2x8, .f32⟩
  | 50 => ⟨S8x32x16x2x16, .f32⟩
  | 51 => ⟨S8x32x16x2x48, .f32⟩
  | 52 => ⟨S8x32x16x2x64, .f32⟩
  | 53 => ⟨S256x2048, .f32⟩
  | 54 => ⟨S256x2048, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_12 : Ref sig .tc := ⟨.hbm, 122, rfl⟩
abbrev main_v102 : Ref sig .tc := ⟨.hbm, 123, rfl⟩
abbrev main_v103 : Ref sig .tc := ⟨.hbm, 124, rfl⟩
abbrev main_cst_13 : Ref sig .tc := ⟨.hbm, 125, rfl⟩
abbrev main_v104 : Ref sig .tc := ⟨.hbm, 126, rfl⟩
abbrev main_v105 : Ref sig .tc := ⟨.hbm, 127, rfl⟩
abbrev main_cst_14 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_15 : Ref sig .tc := ⟨.hbm, 138, rfl⟩
abbrev main_v115 : Ref sig .tc := ⟨.hbm, 139, rfl⟩
abbrev main_v116 : Ref sig .tc := ⟨.hbm, 140, rfl⟩
abbrev main_cst_16 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_17 : Ref sig .tc := ⟨.hbm, 145, rfl⟩
abbrev main_v120 : Ref sig .tc := ⟨.hbm, 146, rfl⟩
abbrev main_v121 : Ref sig .tc := ⟨.hbm, 147, rfl⟩
abbrev main_cst_18 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩

abbrev nD : Nat := 1
abbrev τ : Topo := Topo.v7x

variable {F : FTy → Type} [FloatOps F]
-- ==== Proof.Spec.lean ====
/- One row of the layer, in plain formulas over the extended reals: what both the kernel's programs and the references
   are shown to compute. Nothing here mentions a block, a grid or a layout. -/
module
public import Idealize.ShloMosaic.Lib.Pointwise
@[expose] public section
set_option maxRecDepth 16384
noncomputable section
namespace Cert.Spec
open Idealize.ShloMosaic

/-- RMSNorm of one row `x` with the gain `g`. -/
def rms (x g : Fin 4096 → EReal) (k : Fin 4096) : EReal :=
  x k * Ideal.rsqrt (Ideal.div (∑ l : Fin 4096, x l * x l) (Ideal.ofBits .f32 0x45800000#32)
    + Ideal.ofBits .f32 0x358637BD#32) * g k

/-- A row times a matrix. -/
def lin {K N : ℕ} (x : Fin K → EReal) (w : Fin K → Fin N → EReal) (j : Fin N) : EReal := ∑ k : Fin K, x k * w k j

/-- Row `i` of the two request groups' rows put one under the other: 4 · 2048 prompt rows, then 8 · 32 sample rows. -/
def rowsOf {n : ℕ} {φ : FTy} (p : FVec Ideal ⟨3, ![4, 2048, n]⟩ φ) (s : FVec Ideal ⟨3, ![8, 32, n]⟩ φ)
    (i : Fin 8448) (k : Fin n) : EReal :=
  if h : i.val < 8192 then p (ix3 ⟨i.val / 2048, by omega⟩ ⟨i.val % 2048, Nat.mod_lt _ (by decide)⟩ k)
  else s (ix3 ⟨(i.val - 8192) / 32, by omega⟩ ⟨(i.val - 8192) % 32, Nat.mod_lt _ (by decide)⟩ k)

theorem rowsOf_prompt {n : ℕ} {φ : FTy} (p : FVec Ideal ⟨3, ![4, 2048, n]⟩ φ) (s : FVec Ideal ⟨3, ![8, 32, n]⟩ φ) (i : Fin 8448) (h : i.val < 8192) :
    rowsOf p s i = fun k => p (ix3 ⟨i.val / 2048, by omega⟩ ⟨i.val % 2048, Nat.mod_lt _ (by decide)⟩ k) := funext fun k => dif_pos h
theorem rowsOf_sample {n : ℕ} {φ : FTy} (p : FVec Ideal ⟨3, ![4, 2048, n]⟩ φ) (s : FVec Ideal ⟨3, ![8, 32, n]⟩ φ) (i : Fin 8448) (h : ¬ i.val < 8192) :
    rowsOf p s i = fun k => s (ix3 ⟨(i.val - 8192) / 32, by omega⟩ ⟨(i.val - 8192) % 32, Nat.mod_lt _ (by decide)⟩ k) := funext fun k => dif_neg h

/-- A gain vector, given with a leading axis of length one. -/
def vec {n : ℕ} {φ : FTy} (g : FVec Ideal ⟨2, ![1, n]⟩ φ) (k : Fin n) : EReal := g (ix2 0 k)

/-- A weight matrix, given with a leading axis of length one. -/
def mat {K N : ℕ} {φ : FTy} (w : FVec Ideal ⟨3, ![1, K, N]⟩ φ) (k : Fin K) (j : Fin N) : EReal := w (ix3 0 k j)

/-- The entries of a matrix; `arr a i` is its row `i`. -/
def arr {m n : ℕ} {φ : FTy} (a : FVec Ideal ⟨2, ![m, n]⟩ φ) (i : Fin m) (j : Fin n) : EReal := a (ix2 i j)

/-- The sigmoid. -/
def sigmoid (x : EReal) : EReal := FloatOps.logistic (F := Ideal) (φ := .f32) x

/-- Two branches' values, each under the sigmoid of its gate. -/
def gated (g x h y : EReal) : EReal := sigmoid g * x + sigmoid h * y

/-- The square of the positive part. -/
def relu2 (x : EReal) : EReal := max x 0 * max x 0

/-- A row `x` with the per-layer embedding `pe · wp` added under the sigmoid of `h · wg`. -/
def emb (x h : Fin 4096 → EReal) (wg : Fin 4096 → Fin 4096 → EReal) (pe : Fin 256 → EReal) (wp : Fin 256 → Fin 4096 → EReal)
    (j : Fin 4096) : EReal := x j + sigmoid (lin h wg j) * lin pe wp j

/-- The sample row `i` among all rows. -/
def sRow (i : Fin 256) : Fin 8448 := ⟨8192 + i.val, by omega⟩

/-- The layer's weights: three gains, the projection of the inputs, the two branches' and the output's matrices,
    the two of the feed-forward part and the two of the per-layer embedding. -/
structure Weights where
  g1 : Fin 4096 → EReal
  win : Fin 4096 → Fin 20832 → EReal
  wr : Fin 2048 → Fin 4096 → EReal
  wd : Fin 2048 → Fin 4096 → EReal
  wo : Fin 4096 → Fin 4096 → EReal
  g2 : Fin 4096 → EReal
  wu : Fin 4096 → Fin 16384 → EReal
  wdn : Fin 16384 → Fin 4096 → EReal
  g3 : Fin 4096 → EReal
  wg : Fin 4096 → Fin 4096 → EReal
  wp : Fin 256 → Fin 4096 → EReal

/-- The weights out of the arrays given. -/
def Weights.of (g1 : FVec Ideal ⟨2, ![1, 4096]⟩ .f32) (win : FVec Ideal ⟨3, ![1, 4096, 20832]⟩ .f32)
    (wr wd : FVec Ideal ⟨3, ![1, 2048, 4096]⟩ .f32) (wo : FVec Ideal ⟨3, ![1, 4096, 4096]⟩ .f32)
    (g2 : FVec Ideal ⟨2, ![1, 4096]⟩ .f32) (wu : FVec Ideal ⟨3, ![1, 4096, 16384]⟩ .f32)
    (wdn : FVec Ideal ⟨3, ![1, 16384, 4096]⟩ .f32) (g3 : FVec Ideal ⟨2, ![1, 4096]⟩ .f32)
    (wg : FVec Ideal ⟨3, ![1, 4096, 4096]⟩ .f32) (wp : FVec Ideal ⟨3, ![1, 256, 4096]⟩ .f32) : Weights :=
  ⟨vec g1, mat win, mat wr, mat wd, mat wo, vec g2, mat wu, mat wdn, vec g3, mat wg, mat wp⟩

/-- The projection of a row of the input. -/
def proj (W : Weights) (x : Fin 4096 → EReal) : Fin 20832 → EReal := lin (rms x W.g1) W.win

/-- The two branches' rows `yr`, `yd`, each through its matrix and under its gate. -/
def mixed (W : Weights) (x : Fin 4096 → EReal) (yr yd : Fin 2048 → EReal) (j : Fin 4096) : EReal :=
  gated (proj W x ⟨12640 + j.val, by omega⟩) (lin yr W.wr j) (proj W x ⟨16736 + j.val, by omega⟩) (lin yd W.wd j)

/-- The row after the attention part. -/
def row1 (W : Weights) (x : Fin 4096 → EReal) (yr yd : Fin 2048 → EReal) (j : Fin 4096) : EReal :=
  x j + lin (mixed W x yr yd) W.wo j

/-- The inner values of the feed-forward part. -/
def inner (W : Weights) (x : Fin 4096 → EReal) (yr yd : Fin 2048 → EReal) (l : Fin 16384) : EReal :=
  relu2 (lin (rms (row1 W x yr yd) W.g2) W.wu l)

/-- The row after the feed-forward part. -/
def row2 (W : Weights) (x : Fin 4096 → EReal) (yr yd : Fin 2048 → EReal) (j : Fin 4096) : EReal :=
  row1 W x yr yd j + lin (inner W x yr yd) W.wdn j

/-- The row the per-layer embedding's gate is made from. -/
def norm3 (W : Weights) (x : Fin 4096 → EReal) (yr yd : Fin 2048 → EReal) : Fin 4096 → EReal := rms (row2 W x yr yd) W.g3

/-- The row after the per-layer embedding. -/
def row3 (W : Weights) (x : Fin 4096 → EReal) (yr yd : Fin 2048 → EReal) (pe : Fin 256 → EReal) (j : Fin 4096) : EReal :=
  emb (row2 W x yr yd) (norm3 W x yr yd) W.wg pe W.wp j

/-- The embedding of sample row `i`. -/
def peS (p : FVec Ideal ⟨4, ![1, 8, 32, 256]⟩ .f32) (i : Fin 256) (k : Fin 256) : EReal :=
  p (ix4 0 ⟨i.val / 32, by omega⟩ ⟨i.val % 32, Nat.mod_lt _ (by decide)⟩ k)

end Cert.Spec
end
-- ==== Proof.LayerR0.lean ====
module
public import proofs.«01_k».proof.Proof.Gen.LayerIdeal.Frame.Region0
public import proofs.«01_k».proof.Proof.Gen.LayerIdeal.Frame.Region1
public import proofs.«01_k».proof.Proof.Gen.LayerIdeal.Frame.Region2
public import Idealize.ShloMosaic.Lib.Pipeline.ValueKit
public import Idealize.ShloMosaic.Lib.Pointwise
public import Idealize.ShloMosaic.Lib.Claim
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, win1_0.index t = ![t.val / 13, 0] ∧ win1_2.index t = ![t.val / 13, t.val % 13] :=
  (by decide +kernel : ∀ t : Fin grid1.N, _)

/-- `∑ k, a[i, k] · b[r, k]`: a row of `a` against a row of `b`. -/
def dotT {φ ψ : FTy} (a : FVec Ideal S8448x4096 φ) (b : FVec Ideal S20832x4096 ψ) (i : Fin 8448) (r : Fin 20832) : EReal :=
  ∑ k : Fin 4096, a (ix2 i k) * b (ix2 r k)

theorem elem1 (t : Fin cfg1.N) (y : (win1_1.xblock (grid1.coords t)).Idx) :
    (((View.whole main_v6).slice (win1_1.rect t)).emb y 0).val = t.val % 13 * 512 + (y 0).val
    ∧ (((View.whole main_v6).slice (win1_1.rect t)).emb y 1).val = (y 1).val := by
  have h : ∀ t : Fin cfg1.N, win1_1.index t = ![t.val % 13 * 512, 0] := (by decide +kernel : ∀ t : Fin grid1.N, _)
  constructor
  · exact (win1_1.rect_emb_val_off t y 0).trans (by rw [h t]; rfl)
  · exact (win1_1.rect_emb_val_off t y 1).trans (by rw [h t]; exact Nat.zero_add _)

theorem val1 (c : Dev nD) : (dat1 V c).arrAt 2 cfg1.N
    = fun i : S8448x6656.Idx => dotT (φ := .bf16) (ψ := .f32) (V c main_v4_1) (V c main_v6) (i 0) ⟨0 + (i 1).val, by have : (i 1).val < 6656 := (i 1).isLt; omega⟩ := by
  refine (dat1 V c).arrAt_eq_of_covers 2 _ (by decide +kernel) fun t _ y => ?_
  blk_simp
  rw [after1_2]; frame_out
  pointwise [k1_pay1, dotT]
  blk_point [iblk1, idx1 t]
  · exact (elem1 t _).1
  · exact (elem1 t _).2

theorem idx2 : ∀ t : Fin cfg2.N, win2_0.index t = ![t.val / 28, 0] ∧ win2_2.index t = ![t.val / 28, t.val % 28] := (by decide +kernel : ∀ t : Fin grid2.N, _)

theorem elem2 (t : Fin cfg2.N) (y : (win2_1.xblock (grid2.coords t)).Idx) :
    (((View.whole main_v6).slice (win2_1.rect t)).emb y 0).val = 6496 + t.val % 28 * 512 + (y 0).val
    ∧ (((View.whole main_v6).slice (win2_1.rect t)).emb y 1).val = (y 1).val := by
  have h : ∀ t : Fin cfg2.N, win2_1.index t = ![6496 + t.val % 28 * 512, 0] := (by decide +kernel : ∀ t : Fin grid2.N, _)
  constructor
  · exact (win2_1.rect_emb_val_off t y 0).trans (by rw [h t]; rfl)
  · exact (win2_1.rect_emb_val_off t y 1).trans (by rw [h t]; exact Nat.zero_add _)

theorem val2 (c : Dev nD) : (dat2 V c).arrAt 2 cfg2.N
    = fun i : S8448x14336.Idx => dotT (φ := .bf16) (ψ := .f32) (V c main_v4_1) (V c main_v6) (i 0) ⟨6496 + (i 1).val, by have : (i 1).val < 14336 := (i 1).isLt; omega⟩ := by
  refine (dat2 V c).arrAt_eq_of_covers 2 _ (by decide +kernel) fun t _ y => ?_
  blk_simp
  rw [after2_2]; frame_out
  pointwise [k2_pay1, dotT]
  blk_point [iblk2, idx2 t]
  · refine (elem2 t _).1.trans ?_
    show 6496 + t.val % 28 * 512 + (y 1).val = 6496 + (t.val % 28 * 512 + (y 1).val)
    omega
  · exact (elem2 t _).2

theorem idx0 : ∀ t : Fin cfg0.N, win0_0.index t = ![min t.val 31, 0] ∧ win0_1.index t = ![t.val - 32, 0] ∧ win0_2.index t = ![0, 0] ∧ win0_3.index t = ![t.val, 0] ∧ win0_4.index t = ![t.val, 0] :=
  (by decide +kernel : ∀ t : Fin grid0.N, _)
theorem sel0 : ∀ t : Fin cfg0.N, Scalar.cmpi .slt (BitVec.ofNat 32 (grid0.coords t 0).val) 32#32 = if t.val < 32 then 1#1 else 0#1 :=
  (by decide +kernel : ∀ t : Fin grid0.N, _)

/-- The two groups' rows one under the other. -/
def cat (xp : FVec Ideal S8192x4096 .f32) (xs : FVec Ideal S256x4096 .f32) : FVec Ideal S8448x4096 .f32 := fun i =>
  if h : (i 0).val < 8192 then xp (ix2 ⟨(i 0).val, h⟩ (i 1)) else xs (ix2 ⟨(i 0).val - 8192, by have : (i 0).val < 8448 := (i 0).isLt; omega⟩ (i 1))

theorem select_one {α : Type} (a b : α) : Scalar.select 1#1 a b = a := rfl
theorem select_zero {α : Type} (a b : α) : Scalar.select 0#1 a b = b := rfl

/-- What the body takes as its rows at a point: the rows of `cat` its output block covers. -/
theorem rows0 (c : Dev nD) (t : Fin cfg0.N) (y : (win0_3.xblock (grid0.coords t)).Idx) :
    k0_pay1 (grid0.coords t) (iblk0 V c 0 t) (iblk0 V c 1 t) y = cat (V c main_v0) (V c main_v1) ((win0_3.blk t).view.emb y) := by
  pointwise [k0_pay1, cat]
  by_cases ht : t.val < 32
  · rw [sel0 t, if_pos ht, dif_pos (by blk_simp [idx0 t]; have : (y 0).val < 256 := (y 0).isLt; omega), select_one]
    blk_point [iblk0, idx0 t]
  · rw [sel0 t, if_neg ht, dif_neg (by blk_simp [idx0 t]; omega), select_zero]
    blk_point [iblk0, idx0 t]

theorem val0_3 (c : Dev nD) : (dat0 V c).arrAt 3 cfg0.N = cat (V c main_v0) (V c main_v1) := by
  refine (dat0 V c).arrAt_eq_of_covers 3 _ (by decide +kernel) fun t _ y => ?_
  blk_simp
  rw [after0_3]; frame_out
  exact rows0 V c t y

theorem val0_4 (c : Dev nD) : (dat0 V c).arrAt 4 cfg0.N
    = fun i : S8448x4096.Idx => rms (fun k => cat (V c main_v0) (V c main_v1) (ix2 (i 0) k)) (fun k => (V c main_v3 : FVec Ideal S1x4096 .f32) (ix2 0 k)) (i 1) := by
  refine (dat0 V c).arrAt_eq_of_covers 4 _ (by decide +kernel) fun t _ y => ?_
  blk_simp
  rw [after0_4]; frame_out
  pointwise [k0_pay2, rms]
  simp only [rows0]
  blk_point [iblk0, idx0 t]

end Cert.LayerIdeal.Val
end
-- ==== Proof.LayerR3.lean ====
/- What region 3 of the layer leaves in its output array, as a formula in the arrays it reads. -/
module
public import proofs.«01_k».proof.Proof.Gen.LayerIdeal.Frame.Region3
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, win3_0.index t = ![t.val / 16, 0] ∧ win3_1.index t = ![t.val / 16, 0] ∧ win3_2.index t = ![0, t.val % 16] ∧ win3_3.index t = ![0, t.val % 16]
    ∧ win3_4.index t = ![t.val / 16, 24 + t.val % 16] ∧ win3_5.index t = ![t.val / 16, 40 + t.val % 16] ∧ win3_6.index t = ![t.val / 16, t.val % 16] :=
  (by decide +kernel : ∀ t : Fin grid3.N, _)

/-- Region 3: the gated sum of the two branches. -/
theorem val3 (c : Dev nD) : (dat3 V c).arrAt 6 cfg3.N
    = fun i : S8448x4096.Idx =>
      gated (arr (n := 14336) (φ := .f32) (V c main_v8) (i 0) ⟨6144 + (i 1).val, by have : (i 1).val < 4096 := (i 1).isLt; omega⟩)
        (lin (arr (n := 2048) (φ := .bf16) (V c main_v11) (i 0)) (arr (n := 4096) (φ := .f32) (V c main_v15)) (i 1))
        (arr (n := 14336) (φ := .f32) (V c main_v8) (i 0) ⟨10240 + (i 1).val, by have : (i 1).val < 4096 := (i 1).isLt; omega⟩)
        (lin (arr (n := 2048) (φ := .bf16) (V c main_v14) (i 0)) (arr (n := 4096) (φ := .f32) (V c main_v16)) (i 1)) := by
  refine (dat3 V c).arrAt_eq_of_covers 6 _ (by decide +kernel) fun t _ y => ?_
  blk_simp
  rw [after3_6]; frame_out
  pointwise [k3_pay1, lin, arr, gated, sigmoid]
  blk_point [iblk3, idx3 t]

end Cert.LayerIdeal.Val
end
-- ==== Proof.LayerR4.lean ====
/- What region 4 of the layer leaves in its output array, as a formula in the arrays it reads. -/
module
public import proofs.«01_k».proof.Proof.Gen.LayerIdeal.Frame.Region4
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx4 : ∀ t : Fin cfg4.N, win4_0.index t = ![t.val / 16, 0] ∧ win4_1.index t = ![0, t.val % 16] ∧ win4_2.index t = ![t.val / 16, t.val % 16] ∧ win4_3.index t = ![t.val / 16, t.val % 16] :=
  (by decide +kernel : ∀ t : Fin grid4.N, _)

/-- Region 4: the output projection added to the rows. -/
theorem val4 (c : Dev nD) : (dat4 V c).arrAt 3 cfg4.N
    = fun i : S8448x4096.Idx => arr (n := 4096) (φ := .f32) (V c main_v4_0) (i 0) (i 1) + lin (arr (n := 4096) (φ := .bf16) (V c main_v17) (i 0)) (arr (n := 4096) (φ := .f32) (V c main_v18)) (i 1) := by
  refine (dat4 V c).arrAt_eq_of_covers 3 _ (by decide +kernel) fun t _ y => ?_
  blk_simp
  rw [after4_3]; frame_out
  pointwise [k4_pay1, lin, arr]
  blk_point [iblk4, idx4 t]

end Cert.LayerIdeal.Val
end
-- ==== Proof.LayerR5.lean ====
/- What region 5 of the layer leaves in its output array, as a formula in the arrays it reads. -/
module
public import proofs.«01_k».proof.Proof.Gen.LayerIdeal.Frame.Region5
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx5 : ∀ t : Fin cfg5.N, win5_0.index t = ![t.val, 0] ∧ win5_1.index t = ![0, 0] ∧ win5_2.index t = ![t.val, 0] :=
  (by decide +kernel : ∀ t : Fin grid5.N, _)

/-- Region 5: the second RMSNorm, row by row. -/
theorem val5 (c : Dev nD) : (dat5 V c).arrAt 2 cfg5.N
    = fun i : S8448x4096.Idx => rms (arr (n := 4096) (φ := .f32) (V c main_v19) (i 0)) (arr (n := 4096) (φ := .f32) (V c main_v21) (0 : Fin 1)) (i 1) := by
  refine (dat5 V c).arrAt_eq_of_covers 2 _ (by decide +kernel) fun t _ y => ?_
  blk_simp
  rw [after5_2]; frame_out
  pointwise [k5_pay1, rms, arr]
  blk_point [iblk5, idx5 t]

end Cert.LayerIdeal.Val
end
-- ==== Proof.LayerR6.lean ====
/- What region 6 of the layer leaves in its output array, as a formula in the arrays it reads. -/
module
public import proofs.«01_k».proof.Proof.Gen.LayerIdeal.Frame.Region6
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx6 : ∀ t : Fin cfg6.N, win6_0.index t = ![t.val / 32, 0] ∧ win6_1.index t = ![0, t.val % 32] ∧ win6_2.index t = ![t.val / 32, t.val % 32] :=
  (by decide +kernel : ∀ t : Fin grid6.N, _)

/-- Region 6: the squared positive part of the first product of the feed-forward part. -/
theorem val6 (c : Dev nD) : (dat6 V c).arrAt 2 cfg6.N
    = fun i : S8448x16384.Idx => relu2 (lin (arr (n := 4096) (φ := .bf16) (V c main_v22) (i 0)) (arr (n := 16384) (φ := .f32) (V c main_v23)) (i 1)) := by
  refine (dat6 V c).arrAt_eq_of_covers 2 _ (by decide +kernel) fun t _ y => ?_
  blk_simp
  rw [after6_2]; frame_out
  pointwise [k6_pay1, lin, arr, relu2]
  blk_point [iblk6, idx6 t]

end Cert.LayerIdeal.Val
end
-- ==== Proof.LayerR7.lean ====
/- What region 7 of the layer leaves in its output array, as a formula in the arrays it reads. -/
module
public import proofs.«01_k».proof.Proof.Gen.LayerIdeal.Frame.Region7
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx7 : ∀ t : Fin cfg7.N, win7_0.index t = ![t.val / 64, t.val % 16] ∧ win7_1.index t = ![t.val % 16, t.val / 16 % 4] ∧ win7_2.index t = ![t.val / 64, t.val / 16 % 4] ∧ win7_3.index t = ![t.val / 64, t.val / 16 % 4] :=
  (by decide +kernel : ∀ t : Fin grid7.N, _)

theorem pay7 (acc : FVec Ideal S1408x1024 .f32) (a : FVec Ideal S1408x1024 .bf16) (b : FVec Ideal S1024x1024 .f32) (j : S1408x1024.Idx) :
    k7_pay2 (F := Ideal) acc a b j = acc j + ∑ k : Fin 1024, arr a (j 0) k * arr b k (j 1) := by pointwise [k7_pay2, arr]
theorem pay7' (x : FVec Ideal S1408x1024 .f32) (j : S1408x1024.Idx) : k7_pay1 (F := Ideal) x j = x j := by pointwise [k7_pay1]

/-- The rows a run of region 7 starts from, at the run's first point. -/
def start7 (c : Dev nD) (t : Fin cfg7.N) (j : S1408x1024.Idx) : EReal :=
  if t.val % 16 = 0 then arr (n := 1024) (φ := .f32) (iblk7 V c 2 t) (j 0) (j 1) else 0

/-- What a point of region 7 adds: at a run's first point the rows it starts from, and at each its part of the product. -/
def term7 (c : Dev nD) (t : Fin cfg7.N) (j : S1408x1024.Idx) : EReal :=
  start7 V c t j
    + ∑ k : Fin 1024, arr (n := 1024) (φ := .bf16) (iblk7 V c 0 t) (j 0) k * arr (n := 1024) (φ := .f32) (iblk7 V c 1 t) k (j 1)

theorem step7_A (c : Dev nD) (t : Fin cfg7.N) (h : t.val % 16 = 0) (j : S1408x1024.Idx) :
    k7_pay2 (F := Ideal) (k7_pay1 (F := Ideal) (iblk7 V c 2 t)) (iblk7 V c 0 t) (iblk7 V c 1 t) j = 0 + term7 V c t j := by
  rw [pay7, pay7', zero_add, term7, start7, if_pos h]
  exact congrArg (fun a : EReal => a + _) (congrArg (iblk7 V c 2 t) (ix2_eta j).symm)
theorem step7_B (c : Dev nD) (t : Fin cfg7.N) (h : ¬ t.val % 16 = 0) (j : S1408x1024.Idx) (acc : FVec Ideal S1408x1024 .f32) :
    k7_pay2 (F := Ideal) acc (iblk7 V c 0 t) (iblk7 V c 1 t) j = acc j + term7 V c t j := by
  rw [pay7, term7, start7, if_neg h, zero_add]

/-- A sum of sums taken apart. -/
theorem sum_split {n : ℕ} (F f g : Fin n → EReal) (h : ∀ s, F s = f s + g s) : ∑ s, F s = ∑ s, f s + ∑ s, g s :=
  (Finset.sum_congr rfl fun s _ => h s).trans Finset.sum_add_distrib

/-- Region 7: the second product of the feed-forward part added to the rows. -/
theorem val7 (c : Dev nD) : (dat7 V c).arrAt 3 cfg7.N
    = fun i : S8448x4096.Idx => arr (n := 4096) (φ := .f32) (V c main_v19) (i 0) (i 1) + lin (arr (n := 16384) (φ := .bf16) (V c main_v24) (i 0)) (arr (n := 4096) (φ := .f32) (V c main_v25)) (i 1) := by
  refine (dat7 V c).arrAt_eq_of_covers 3 _ (by decide +kernel) fun t hf y => ?_
  blk_simp
  rw [after7_3, Pipeline.eq_sum_fin_of_reset_step_apply_of_flush (fun n h => outsAt7 V c n h) 16 (fun _ => 0) (term7 V c)
    (fun t h j => by rw [outsAt7_A V c t h]; frame_out; exact step7_A V c t h j)
    (fun t h j => by rw [outsAt7_B V c t h]; frame_out; exact step7_B V c t h j _)
    t ((flush7_3 t).mp hf) _, zero_add]
  refine (sum_split _ (fun s => start7 V c ⟨_, Pipeline.run_point_lt_of_flush t ((flush7_3 t).mp hf) s⟩ y)
    (fun s => ∑ k : Fin 1024, arr (n := 1024) (φ := .bf16) (iblk7 V c 0 ⟨_, Pipeline.run_point_lt_of_flush t ((flush7_3 t).mp hf) s⟩) (y 0) k
      * arr (n := 1024) (φ := .f32) (iblk7 V c 1 ⟨_, Pipeline.run_point_lt_of_flush t ((flush7_3 t).mp hf) s⟩) k (y 1))
    (fun s => rfl)).trans (congrArg₂ (fun a b : EReal => a + b) ?_ ?_)
  · refine (Finset.sum_eq_single (0 : Fin 16) (fun s _ hs => if_neg ?_) (fun h => absurd (Finset.mem_univ _) h)).trans ((if_pos ?_).trans ?_)
    · have h0 : s.val ≠ 0 := fun h => hs (Fin.ext h)
      show ¬ (16 * (t.val / 16) + s.val) % 16 = 0
      omega
    · show (16 * (t.val / 16) + 0) % 16 = 0
      omega
    · unfold arr
      blk_point [iblk7, idx7 t, idx7 ⟨16 * (t.val / 16), by have : t.val < 384 := t.isLt; show _ < 384; omega⟩]
  · refine Fin.sum_mul_add_congr fun s k hl => ?_
    unfold arr
    refine congrArg₂ (fun a b : EReal => a * b) ?_ ?_ <;>
      blk_point [iblk7, idx7 t, idx7 ⟨_, Pipeline.run_point_lt_of_flush t ((flush7_3 t).mp hf) s⟩]

end Cert.LayerIdeal.Val
end
-- ==== Proof.LayerR8.lean ====
/- What region 8 of the layer leaves in its output array, as a formula in the arrays it reads. -/
module
public import proofs.«01_k».proof.Proof.Gen.LayerIdeal.Frame.Region8
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx8 : ∀ t : Fin cfg8.N, win8_0.index t = ![t.val, 0] ∧ win8_1.index t = ![0, 0] ∧ win8_2.index t = ![t.val, 0] :=
  (by decide +kernel : ∀ t : Fin grid8.N, _)

/-- Region 8: the third RMSNorm, row by row. -/
theorem val8 (c : Dev nD) : (dat8 V c).arrAt 2 cfg8.N
    = fun i : S8448x4096.Idx => rms (arr (n := 4096) (φ := .f32) (V c main_v26) (i 0)) (arr (n := 4096) (φ := .f32) (V c main_v28) (0 : Fin 1)) (i 1) := by
  refine (dat8 V c).arrAt_eq_of_covers 2 _ (by decide +kernel) fun t _ y => ?_
  blk_simp
  rw [after8_2]; frame_out
  pointwise [k8_pay1, rms, arr]
  blk_point [iblk8, idx8 t]

end Cert.LayerIdeal.Val
end
-- ==== Proof.LayerR9.lean ====
/- What region 9 of the layer leaves in its output array, as a formula in the arrays it reads. -/
module
public import proofs.«01_k».proof.Proof.Gen.LayerIdeal.Frame.Region9
public import Idealize.ShloMosaic.Lib.Pipeline.ValueKit
public import Idealize.ShloMosaic.Lib.Pointwise
public import proofs.«01_k».proof.Proof.Spec
@[expose] public section
set_option maxRecDepth 16384
noncomputable section
namespace Cert.LayerIdeal.Val
open Cert.Spec
open Cert.LayerIdeal Cert.LayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx9 : ∀ t : Fin cfg9.N, win9_0.index t = ![32, 0] ∧ win9_1.index t = ![0, t.val] ∧ win9_2.index t = ![0, 0] ∧ win9_3.index t = ![0, t.val] ∧ win9_4.index t = ![32, t.val] ∧ win9_5.index t = ![0, t.val] :=
  (by decide +kernel : ∀ t : Fin grid9.N, _)

/-- Region 9: the per-layer embedding added to the sample rows, the last 256 rows. -/
theorem val9 (c : Dev nD) : (dat9 V c).arrAt 5 cfg9.N
    = fun i : S256x4096.Idx => emb (arr (n := 4096) (φ := .f32) (V c main_v26) (sRow (i 0))) (arr (n := 4096) (φ := .bf16) (V c main_v29) (sRow (i 0)))
        (arr (n := 4096) (φ := .f32) (V c main_v32)) (arr (n := 256) (φ := .f32) (V c main_v31) (i 0)) (arr (n := 4096) (φ := .f32) (V c main_v33)) (i 1) := by
  refine (dat9 V c).arrAt_eq_of_covers 5 _ (by decide +kernel) fun t _ y => ?_
  blk_simp
  rw [after9_5]; frame_out
  pointwise [k9_pay1, emb, lin, arr, sRow, sigmoid]
  blk_point [iblk9, idx9 t]

end Cert.LayerIdeal.Val
end
-- ==== Proof.LayerChain.lean ====
/- What the layer's kernel leaves in each array it makes, stage after stage, as rows of its arguments. -/
module
public import proofs.«01_k».proof.Proof.Gen.LayerIdeal.Frame
public import Idealize.ShloMosaic.Lib.Pointwise
public import Idealize.ShloMosaic.Lib.Claim
public import proofs.«01_k».proof.Proof.LayerR0
public import proofs.«01_k».proof.Proof.LayerR3
public import proofs.«01_k».proof.Proof.LayerR4
public import proofs.«01_k».proof.Proof.LayerR5
public import proofs.«01_k».proof.Proof.LayerR6
public import proofs.«01_k».proof.Proof.LayerR7
public import proofs.«01_k».proof.Proof.LayerR8
public import proofs.«01_k».proof.Proof.LayerR9
@[expose] public section
set_option maxRecDepth 16384
noncomputable section
namespace Cert.LayerIdeal.Val
open Cert.Spec Cert.LayerIdeal Cert.LayerIdeal.Gen Idealize.ShloMosaic Idealize.ShloMosaic.TcCoe Idealize.SL.Sem

variable (m : (ℓ : Loc nD τ sig) → Buf (Elt Ideal) ℓ) (ρ : Dev nD → PrngReg)

/-! The arguments as rows. -/

/-- The weights the launch gives. -/
def wt (c : Dev nD) : Weights := Weights.of (m ((c : Thread nD τ).loc main_arg3)) (m ((c : Thread nD τ).loc main_arg4)) (m ((c : Thread nD τ).loc main_arg9))
  (m ((c : Thread nD τ).loc main_arg10)) (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16)) (m ((c : Thread nD τ).loc main_arg17))
/-- Row `i` of the inputs. -/
def xr (c : Dev nD) (i : Fin 8448) : Fin 4096 → EReal := rowsOf (n := 4096) (φ := .f32) (m ((c : Thread nD τ).loc main_arg0)) (m ((c : Thread nD τ).loc main_arg1)) i
/-- Row `i` of the first branch. -/
def yr (c : Dev nD) (i : Fin 8448) : Fin 2048 → EReal := rowsOf (n := 2048) (φ := .bf16) (m ((c : Thread nD τ).loc main_arg5)) (m ((c : Thread nD τ).loc main_arg6)) i
/-- Row `i` of the second branch. -/
def yd (c : Dev nD) (i : Fin 8448) : Fin 2048 → EReal := rowsOf (n := 2048) (φ := .bf16) (m ((c : Thread nD τ).loc main_arg7)) (m ((c : Thread nD τ).loc main_arg8)) i
/-- The embedding of sample row `i`. -/
def pe (c : Dev nD) (i : Fin 256) : Fin 256 → EReal := peS (m ((c : Thread nD τ).loc main_arg2)) i

/-! The host's layouts, over variable arrays. -/

theorem mat_b (w : FVec Ideal S1x2048x4096 .f32) : arr (shapeCast S2048x4096 w shapeCasts_S1x2048x4096_S2048x4096) = mat w := by
  funext k j; pointwise [arr, mat]
theorem mat_o (w : FVec Ideal S1x4096x4096 .f32) : arr (shapeCast S4096x4096 w shapeCasts_S1x4096x4096_S4096x4096) = mat w := by
  funext k j; pointwise [arr, mat]
theorem mat_u (w : FVec Ideal S1x4096x16384 .f32) : arr (shapeCast S4096x16384 w shapeCasts_S1x4096x16384_S4096x16384) = mat w := by
  funext k j; pointwise [arr, mat]
theorem mat_d (w : FVec Ideal S1x16384x4096 .f32) : arr (shapeCast S16384x4096 w shapeCasts_S1x16384x4096_S16384x4096) = mat w := by
  funext k j; pointwise [arr, mat]
theorem mat_p (w : FVec Ideal S1x256x4096 .f32) : arr (shapeCast S256x4096 w shapeCasts_S1x256x4096_S256x4096) = mat w := by
  funext k j; pointwise [arr, mat]
theorem vec_g (g : FVec Ideal S1x4096 .f32) : arr (shapeCast S1x4096 (shapeCast S4096 g shapeCasts_S1x4096_S4096) shapeCasts_S4096_S1x4096) 0 = vec g := by
  funext k; pointwise [arr, vec]
theorem wt_at (w : FVec Ideal S1x4096x20832 .f32) (r : Fin 20832) (k : Fin 4096) :
    transpose S20832x4096 [1, 0] (shapeCast S4096x20832 w shapeCasts_S1x4096x20832_S4096x20832) transposes_S4096x20832_S20832x4096_1_0 (ix2 r k) = mat w k r := by
  pointwise [mat]
theorem pe_at (p : FVec Ideal S1x8x32x256 .f32) (i : Fin 256) : arr (shapeCast S256x256 (shapeCast S8x32x256 p shapeCasts_S1x8x32x256_S8x32x256) shapeCasts_S8x32x256_S256x256) i = peS p i := by
  funext k; pointwise [arr, peS]
theorem cast_p (x : FVec Ideal S4x2048x4096 .f32) (i : Fin 8192) (k : Fin 4096) : shapeCast S8192x4096 x shapeCasts_S4x2048x4096_S8192x4096 (ix2 i k)
    = x (ix3 ⟨i.val / 2048, by omega⟩ ⟨i.val % 2048, Nat.mod_lt _ (by decide)⟩ k) := by
  pointwise
theorem cast_s (x : FVec Ideal S8x32x4096 .f32) (i : Fin 256) (k : Fin 4096) : shapeCast S256x4096 x shapeCasts_S8x32x4096_S256x4096 (ix2 i k)
    = x (ix3 ⟨i.val / 32, by omega⟩ ⟨i.val % 32, Nat.mod_lt _ (by decide)⟩ k) := by
  pointwise

theorem cat_rows (xp : FVec Ideal S4x2048x4096 .f32) (xs : FVec Ideal S8x32x4096 .f32)  (i : Fin 8448) (k : Fin 4096) :
    cat (shapeCast S8192x4096 xp shapeCasts_S4x2048x4096_S8192x4096) (shapeCast S256x4096 xs shapeCasts_S8x32x4096_S256x4096) (ix2 i k)
    = rowsOf (n := 4096) (φ := .f32) xp xs i k := by
  unfold cat rowsOf
  by_cases h : i.val < 8192
  · rw [dif_pos h, dif_pos (show (ix2 i k (0 : Fin 2)).val < 8192 from h)]
    exact cast_p xp ⟨i.val, h⟩ k
  · rw [dif_neg h, dif_neg (show ¬ (ix2 i k (0 : Fin 2)).val < 8192 from h)]
    exact cast_s xs ⟨i.val - 8192, by omega⟩ k

/-- Two branches' groups of rows put one under the other. -/
theorem cat_y (p : FVec Ideal S4x2048x2048 .bf16) (s : FVec Ideal S8x32x2048 .bf16) (i : Fin 8448) :
    arr (concatenate S8448x2048 0 [⟨S8192x2048, shapeCast S8192x2048 p shapeCasts_S4x2048x2048_S8192x2048⟩, ⟨S256x2048, shapeCast S256x2048 s shapeCasts_S8x32x2048_S256x2048⟩] concatenates_S8192x2048_S256x2048_S8448x2048_d0) i
    = rowsOf (n := 2048) (φ := .bf16) p s i := by
  funext k
  pointwise [arr]
  by_cases h : i.val < 8192
  · rw [dif_pos h, rowsOf_prompt _ _ _ h]
  · rw [dif_neg h, rowsOf_sample _ _ _ h]

/-! What the host leaves before each region. -/

theorem V1_v0 (c : Dev nD) : V1 m ρ c main_v0 = shapeCast S8192x4096 (m ((c : Thread nD τ).loc main_arg0) : FVec Ideal S4x2048x4096 .f32) shapeCasts_S4x2048x4096_S8192x4096 := by
  show StableHlo.after hostOps0 (W0 m ρ c) (Proc.devRef .tc main_v0) = _
  after_results_simp <;> rfl
theorem V1_v1 (c : Dev nD) : V1 m ρ c main_v1 = shapeCast S256x4096 (m ((c : Thread nD τ).loc main_arg1) : FVec Ideal S8x32x4096 .f32) shapeCasts_S8x32x4096_S256x4096 := by
  show StableHlo.after hostOps0 (W0 m ρ c) (Proc.devRef .tc main_v1) = _
  after_results_simp <;> rfl
theorem V1_v3 (c : Dev nD) : V1 m ρ c main_v3 = shapeCast S1x4096 (shapeCast S4096 (m ((c : Thread nD τ).loc main_arg3) : FVec Ideal S1x4096 .f32) shapeCasts_S1x4096_S4096) shapeCasts_S4096_S1x4096 := by
  show StableHlo.after hostOps0 (W0 m ρ c) (Proc.devRef .tc main_v3) = _
  after_results_simp <;> rfl
theorem V3_v6 (c : Dev nD) : V3 m ρ c main_v6 = transpose S20832x4096 [1, 0] (shapeCast S4096x20832 (m ((c : Thread nD τ).loc main_arg4) : FVec Ideal S1x4096x20832 .f32) shapeCasts_S1x4096x20832_S4096x20832) transposes_S4096x20832_S20832x4096_1_0 := by
  show StableHlo.after hostOps1 (W2 m ρ c) (Proc.devRef .tc main_v6) = _
  rw [← W2_args m ρ c main_arg4 (by decide)]
  after_results_simp <;> rfl
theorem V6_v11 (c : Dev nD) : V6 m ρ c main_v11 = concatenate S8448x2048 0 [⟨S8192x2048, shapeCast S8192x2048 (m ((c : Thread nD τ).loc main_arg5) : FVec Ideal S4x2048x2048 .bf16) shapeCasts_S4x2048x2048_S8192x2048⟩, ⟨S256x2048, shapeCast S256x2048 (m ((c : Thread nD τ).loc main_arg6) : FVec Ideal S8x32x2048 .bf16) shapeCasts_S8x32x2048_S256x2048⟩] concatenates_S8192x2048_S256x2048_S8448x2048_d0 := by
  show StableHlo.after hostOps3 (W5 m ρ c) (Proc.devRef .tc main_v11) = _
  rw [← W5_args m ρ c main_arg5 (by decide), ← W5_args m ρ c main_arg6 (by decide)]
  after_results_simp <;> rfl
theorem V6_v14 (c : Dev nD) : V6 m ρ c main_v14 = concatenate S8448x2048 0 [⟨S8192x2048, shapeCast S8192x2048 (m ((c : Thread nD τ).loc main_arg7) : FVec Ideal S4x2048x2048 .bf16) shapeCasts_S4x2048x2048_S8192x2048⟩, ⟨S256x2048, shapeCast S256x2048 (m ((c : Thread nD τ).loc main_arg8) : FVec Ideal S8x32x2048 .bf16) shapeCasts_S8x32x2048_S256x2048⟩] concatenates_S8192x2048_S256x2048_S8448x2048_d0 := by
  show StableHlo.after hostOps3 (W5 m ρ c) (Proc.devRef .tc main_v14) = _
  rw [← W5_args m ρ c main_arg7 (by decide), ← W5_args m ρ c main_arg8 (by decide)]
  after_results_simp <;> rfl
theorem V6_v15 (c : Dev nD) : V6 m ρ c main_v15 = shapeCast S2048x4096 (m ((c : Thread nD τ).loc main_arg9) : FVec Ideal S1x2048x4096 .f32) shapeCasts_S1x2048x4096_S2048x4096 := by
  show StableHlo.after hostOps3 (W5 m ρ c) (Proc.devRef .tc main_v15) = _
  rw [← W5_args m ρ c main_arg9 (by decide)]
  after_results_simp <;> rfl
theorem V6_v16 (c : Dev nD) : V6 m ρ c main_v16 = shapeCast S2048x4096 (m ((c : Thread nD τ).loc main_arg10) : FVec Ideal S1x2048x4096 .f32) shapeCasts_S1x2048x4096_S2048x4096 := by
  show StableHlo.after hostOps3 (W5 m ρ c) (Proc.devRef .tc main_v16) = _
  rw [← W5_args m ρ c main_arg10 (by decide)]
  after_results_simp <;> rfl
theorem V8_v18 (c : Dev nD) : V8 m ρ c main_v18 = shapeCast S4096x4096 (m ((c : Thread nD τ).loc main_arg11) : FVec Ideal S1x4096x4096 .f32) shapeCasts_S1x4096x4096_S4096x4096 := by
  show StableHlo.after hostOps4 (W7 m ρ c) (Proc.devRef .tc main_v18) = _
  rw [← W7_args m ρ c main_arg11 (by decide)]
  after_results_simp <;> rfl
theorem V10_v21 (c : Dev nD) : V10 m ρ c main_v21 = shapeCast S1x4096 (shapeCast S4096 (m ((c : Thread nD τ).loc main_arg12) : FVec Ideal S1x4096 .f32) shapeCasts_S1x4096_S4096) shapeCasts_S4096_S1x4096 := by
  show StableHlo.after hostOps5 (W9 m ρ c) (Proc.devRef .tc main_v21) = _
  rw [← W9_args m ρ c main_arg12 (by decide)]
  after_results_simp <;> rfl
theorem V12_v23 (c : Dev nD) : V12 m ρ c main_v23 = shapeCast S4096x16384 (m ((c : Thread nD τ).loc main_arg13) : FVec Ideal S1x4096x16384 .f32) shapeCasts_S1x4096x16384_S4096x16384 := by
  show StableHlo.after hostOps6 (W11 m ρ c) (Proc.devRef .tc main_v23) = _
  rw [← W11_args m ρ c main_arg13 (by decide)]
  after_results_simp <;> rfl
theorem V14_v25 (c : Dev nD) : V14 m ρ c main_v25 = shapeCast S16384x4096 (m ((c : Thread nD τ).loc main_arg14) : FVec Ideal S1x16384x4096 .f32) shapeCasts_S1x16384x4096_S16384x4096 := by
  show StableHlo.after hostOps7 (W13 m ρ c) (Proc.devRef .tc main_v25) = _
  rw [← W13_args m ρ c main_arg14 (by decide)]
  after_results_simp <;> rfl
theorem V16_v28 (c : Dev nD) : V16 m ρ c main_v28 = shapeCast S1x4096 (shapeCast S4096 (m ((c : Thread nD τ).loc main_arg15) : FVec Ideal S1x4096 .f32) shapeCasts_S1x4096_S4096) shapeCasts_S4096_S1x4096 := by
  show StableHlo.after hostOps8 (W15 m ρ c) (Proc.devRef .tc main_v28) = _
  rw [← W15_args m ρ c main_arg15 (by decide)]
  after_results_simp <;> rfl
theorem V18_v31 (c : Dev nD) : V18 m ρ c main_v31 = shapeCast S256x256 (shapeCast S8x32x256 (m ((c : Thread nD τ).loc main_arg2) : FVec Ideal S1x8x32x256 .f32) shapeCasts_S1x8x32x256_S8x32x256) shapeCasts_S8x32x256_S256x256 := by
  show StableHlo.after hostOps9 (W17 m ρ c) (Proc.devRef .tc main_v31) = _
  rw [← W17_args m ρ c main_arg2 (by decide)]
  after_results_simp <;> rfl
theorem V18_v32 (c : Dev nD) : V18 m ρ c main_v32 = shapeCast S4096x4096 (m ((c : Thread nD τ).loc main_arg16) : FVec Ideal S1x4096x4096 .f32) shapeCasts_S1x4096x4096_S4096x4096 := by
  show StableHlo.after hostOps9 (W17 m ρ c) (Proc.devRef .tc main_v32) = _
  rw [← W17_args m ρ c main_arg16 (by decide)]
  after_results_simp <;> rfl
theorem V18_v33 (c : Dev nD) : V18 m ρ c main_v33 = shapeCast S256x4096 (m ((c : Thread nD τ).loc main_arg17) : FVec Ideal S1x256x4096 .f32) shapeCasts_S1x256x4096_S256x4096 := by
  show StableHlo.after hostOps9 (W17 m ρ c) (Proc.devRef .tc main_v33) = _
  rw [← W17_args m ρ c main_arg17 (by decide)]
  after_results_simp <;> rfl

/-! The stages. -/

/-- The input rows, as the first region leaves them. -/
theorem B0 (c : Dev nD) : W2 m ρ c main_v4_0 = fun i : S8448x4096.Idx => xr m c (i 0) (i 1) := by
  refine (W2_arr m ρ c 3).trans ((val0_3 (V1 m ρ) c).trans ?_)
  funext i
  rw [V1_v0, V1_v1]
  refine (congrArg (cat _ _) (ix2_eta i).symm).trans (cat_rows _ _ _ _)

theorem B1 (c : Dev nD) : V3 m ρ c main_v4_1 = fun i : S8448x4096.Idx => rms (xr m c (i 0)) (wt m c).g1 (i 1) := by
  refine (W3_of m ρ c main_v4_1 (by decide)).trans ((W2_arr m ρ c 4).trans ((val0_4 (V1 m ρ) c).trans ?_))
  funext i
  rw [V1_v0, V1_v1, V1_v3]
  exact congrFun (congrArg₂ rms (funext fun k => cat_rows _ _ _ k) (vec_g _)) (i 1)

theorem W_wt (c : Dev nD) (r : Fin 20832) (k : Fin 4096) : (V3 m ρ c main_v6 : FVec Ideal S20832x4096 .f32) (ix2 r k) = (wt m c).win k r := by
  rw [V3_v6]
  exact wt_at _ r k

/-- The first slice of the projection. -/
theorem W_r (c : Dev nD) : W4 m ρ c main_v7 = fun i : S8448x6656.Idx => proj (wt m c) (xr m c (i 0)) ⟨0 + (i 1).val, by have : (i 1).val < 6656 := (i 1).isLt; omega⟩ := by
  refine (W4_arr m ρ c 2).trans ((val1 (V3 m ρ) c).trans ?_)
  funext i
  unfold dotT
  exact Finset.sum_congr rfl fun k _ => congrArg₂ (fun a b : EReal => a * b) (congrFun (B1 m ρ c) (ix2 (i 0) k)) (W_wt m ρ c _ k)
/-- The second slice of the projection. -/
theorem W_a (c : Dev nD) : W5 m ρ c main_v8 = fun i : S8448x14336.Idx => proj (wt m c) (xr m c (i 0)) ⟨6496 + (i 1).val, by have : (i 1).val < 14336 := (i 1).isLt; omega⟩ := by
  refine (W5_arr m ρ c 2).trans ((val2 (V4 m ρ) c).trans ?_)
  have h1 : V4 m ρ c main_v4_1 = V3 m ρ c main_v4_1 := W4_of m ρ c main_v4_1 (by decide)
  have h6 : V4 m ρ c main_v6 = V3 m ρ c main_v6 := W4_of m ρ c main_v6 (by decide)
  rw [h1, h6]
  funext i
  unfold dotT
  exact Finset.sum_congr rfl fun k _ => congrArg₂ (fun a b : EReal => a * b) (congrFun (B1 m ρ c) (ix2 (i 0) k)) (W_wt m ρ c _ k)

theorem A8 (c : Dev nD) (i : Fin 8448) (j : Fin 14336) : arr (n := 14336) (φ := .f32) (V6 m ρ c main_v8) i j = proj (wt m c) (xr m c i) ⟨6496 + j.val, by omega⟩ :=
  congrFun ((W6_of m ρ c main_v8 (by decide)).trans (W_a m ρ c)) (ix2 i j)
theorem A11 (c : Dev nD) (i : Fin 8448) : arr (n := 2048) (φ := .bf16) (V6 m ρ c main_v11) i = yr m c i := by
  rw [V6_v11]; exact cat_y _ _ i
theorem A14 (c : Dev nD) (i : Fin 8448) : arr (n := 2048) (φ := .bf16) (V6 m ρ c main_v14) i = yd m c i := by
  rw [V6_v14]; exact cat_y _ _ i
theorem A15 (c : Dev nD) : arr (n := 4096) (φ := .f32) (V6 m ρ c main_v15) = (wt m c).wr := by
  rw [V6_v15]; exact mat_b _
theorem A16 (c : Dev nD) : arr (n := 4096) (φ := .f32) (V6 m ρ c main_v16) = (wt m c).wd := by
  rw [V6_v16]; exact mat_b _

/-- The two branches under their gates. -/
theorem B3 (c : Dev nD) : W7 m ρ c main_v17 = fun i : S8448x4096.Idx => mixed (wt m c) (xr m c (i 0)) (yr m c (i 0)) (yd m c (i 0)) (i 1) := by
  refine (W7_arr m ρ c 6).trans ((val3 (V6 m ρ) c).trans ?_)
  funext i
  have key : ∀ (r : Fin 8448) (j : Fin 4096), gated (arr (n := 14336) (φ := .f32) (V6 m ρ c main_v8) r ⟨6144 + j.val, by omega⟩) (lin (arr (n := 2048) (φ := .bf16) (V6 m ρ c main_v11) r) (arr (n := 4096) (φ := .f32) (V6 m ρ c main_v15)) j)
      (arr (n := 14336) (φ := .f32) (V6 m ρ c main_v8) r ⟨10240 + j.val, by omega⟩) (lin (arr (n := 2048) (φ := .bf16) (V6 m ρ c main_v14) r) (arr (n := 4096) (φ := .f32) (V6 m ρ c main_v16)) j) = mixed (wt m c) (xr m c r) (yr m c r) (yd m c r) j := by
    intro r j
    rw [A8, A8, A11, A14, A15, A16]
    exact congrArg₂ (fun a b => gated (proj (wt m c) (xr m c r) a) (lin (yr m c r) (wt m c).wr j) (proj (wt m c) (xr m c r) b) (lin (yd m c r) (wt m c).wd j))
      (Fin.ext (by show 6496 + (6144 + j.val) = 12640 + j.val; omega)) (Fin.ext (by show 6496 + (10240 + j.val) = 16736 + j.val; omega))
  exact key (i 0) (i 1)

theorem A4 (c : Dev nD) (i : Fin 8448) : arr (n := 4096) (φ := .f32) (V8 m ρ c main_v4_0) i = xr m c i :=
  funext fun j => congrFun (((W8_of m ρ c main_v4_0 (by decide)).trans ((W7_of m ρ c main_v4_0 (by decide)).trans ((W6_of m ρ c main_v4_0 (by decide)).trans ((W5_of m ρ c main_v4_0 (by decide)).trans ((W4_of m ρ c main_v4_0 (by decide)).trans (W3_of m ρ c main_v4_0 (by decide))))))).trans (B0 m ρ c)) (ix2 i j)
theorem A17 (c : Dev nD) (i : Fin 8448) : arr (n := 4096) (φ := .bf16) (V8 m ρ c main_v17) i = mixed (wt m c) (xr m c i) (yr m c i) (yd m c i) :=
  funext fun j => congrFun ((W8_of m ρ c main_v17 (by decide)).trans (B3 m ρ c)) (ix2 i j)
theorem A18 (c : Dev nD) : arr (n := 4096) (φ := .f32) (V8 m ρ c main_v18) = (wt m c).wo := by
  rw [V8_v18]; exact mat_o _

/-- The rows after the attention part. -/
theorem B4 (c : Dev nD) : W9 m ρ c main_v19 = fun i : S8448x4096.Idx => row1 (wt m c) (xr m c (i 0)) (yr m c (i 0)) (yd m c (i 0)) (i 1) := by
  refine (W9_arr m ρ c 3).trans ((val4 (V8 m ρ) c).trans ?_)
  funext i
  have key : ∀ (r : Fin 8448) (j : Fin 4096), arr (n := 4096) (φ := .f32) (V8 m ρ c main_v4_0) r j + lin (arr (n := 4096) (φ := .bf16) (V8 m ρ c main_v17) r) (arr (n := 4096) (φ := .f32) (V8 m ρ c main_v18)) j = row1 (wt m c) (xr m c r) (yr m c r) (yd m c r) j := by
    intro r j
    rw [A4, A17, A18]
    rfl
  exact key (i 0) (i 1)

theorem A19 (c : Dev nD) (i : Fin 8448) : arr (n := 4096) (φ := .f32) (V10 m ρ c main_v19) i = row1 (wt m c) (xr m c i) (yr m c i) (yd m c i) :=
  funext fun j => congrFun ((W10_of m ρ c main_v19 (by decide)).trans (B4 m ρ c)) (ix2 i j)
theorem A21 (c : Dev nD) : arr (n := 4096) (φ := .f32) (V10 m ρ c main_v21) (0 : Fin 1) = (wt m c).g2 := by
  rw [V10_v21]; exact vec_g _

theorem B5 (c : Dev nD) : W11 m ρ c main_v22 = fun i : S8448x4096.Idx => rms (row1 (wt m c) (xr m c (i 0)) (yr m c (i 0)) (yd m c (i 0))) (wt m c).g2 (i 1) := by
  refine (W11_arr m ρ c 2).trans ((val5 (V10 m ρ) c).trans ?_)
  funext i
  have key : ∀ (r : Fin 8448) (j : Fin 4096), rms (arr (n := 4096) (φ := .f32) (V10 m ρ c main_v19) r) (arr (n := 4096) (φ := .f32) (V10 m ρ c main_v21) (0 : Fin 1)) j = rms (row1 (wt m c) (xr m c r) (yr m c r) (yd m c r)) (wt m c).g2 j := by
    intro r j
    rw [A19, A21]
  exact key (i 0) (i 1)

theorem A22 (c : Dev nD) (i : Fin 8448) : arr (n := 4096) (φ := .bf16) (V12 m ρ c main_v22) i = rms (row1 (wt m c) (xr m c i) (yr m c i) (yd m c i)) (wt m c).g2 :=
  funext fun j => congrFun ((W12_of m ρ c main_v22 (by decide)).trans (B5 m ρ c)) (ix2 i j)
theorem A23 (c : Dev nD) : arr (n := 16384) (φ := .f32) (V12 m ρ c main_v23) = (wt m c).wu := by
  rw [V12_v23]; exact mat_u _

/-- The inner values of the feed-forward part. -/
theorem B6 (c : Dev nD) : W13 m ρ c main_v24 = fun i : S8448x16384.Idx => Spec.inner (wt m c) (xr m c (i 0)) (yr m c (i 0)) (yd m c (i 0)) (i 1) := by
  refine (W13_arr m ρ c 2).trans ((val6 (V12 m ρ) c).trans ?_)
  funext i
  have key : ∀ (r : Fin 8448) (j : Fin 16384), relu2 (lin (arr (n := 4096) (φ := .bf16) (V12 m ρ c main_v22) r) (arr (n := 16384) (φ := .f32) (V12 m ρ c main_v23)) j) = Spec.inner (wt m c) (xr m c r) (yr m c r) (yd m c r) j := by
    intro r j
    rw [A22, A23]
    rfl
  exact key (i 0) (i 1)

theorem A24 (c : Dev nD) (i : Fin 8448) : arr (n := 16384) (φ := .bf16) (V14 m ρ c main_v24) i = Spec.inner (wt m c) (xr m c i) (yr m c i) (yd m c i) :=
  funext fun j => congrFun ((W14_of m ρ c main_v24 (by decide)).trans (B6 m ρ c)) (ix2 i j)
theorem A25 (c : Dev nD) : arr (n := 4096) (φ := .f32) (V14 m ρ c main_v25) = (wt m c).wdn := by
  rw [V14_v25]; exact mat_d _
theorem A19' (c : Dev nD) (i : Fin 8448) : arr (n := 4096) (φ := .f32) (V14 m ρ c main_v19) i = row1 (wt m c) (xr m c i) (yr m c i) (yd m c i) :=
  funext fun j => congrFun (((W14_of m ρ c main_v19 (by decide)).trans ((W13_of m ρ c main_v19 (by decide)).trans ((W12_of m ρ c main_v19 (by decide)).trans ((W11_of m ρ c main_v19 (by decide)).trans (W10_of m ρ c main_v19 (by decide)))))).trans (B4 m ρ c)) (ix2 i j)

/-- The rows after the feed-forward part. -/
theorem B7 (c : Dev nD) : W15 m ρ c main_v26 = fun i : S8448x4096.Idx => row2 (wt m c) (xr m c (i 0)) (yr m c (i 0)) (yd m c (i 0)) (i 1) := by
  refine (W15_arr m ρ c 3).trans ((val7 (V14 m ρ) c).trans ?_)
  funext i
  have key : ∀ (r : Fin 8448) (j : Fin 4096), arr (n := 4096) (φ := .f32) (V14 m ρ c main_v19) r j + lin (arr (n := 16384) (φ := .bf16) (V14 m ρ c main_v24) r) (arr (n := 4096) (φ := .f32) (V14 m ρ c main_v25)) j = row2 (wt m c) (xr m c r) (yr m c r) (yd m c r) j := by
    intro r j
    rw [A19', A24, A25]
    rfl
  exact key (i 0) (i 1)

theorem A26 (c : Dev nD) (i : Fin 8448) : arr (n := 4096) (φ := .f32) (V16 m ρ c main_v26) i = row2 (wt m c) (xr m c i) (yr m c i) (yd m c i) :=
  funext fun j => congrFun ((W16_of m ρ c main_v26 (by decide)).trans (B7 m ρ c)) (ix2 i j)
theorem A28 (c : Dev nD) : arr (n := 4096) (φ := .f32) (V16 m ρ c main_v28) (0 : Fin 1) = (wt m c).g3 := by
  rw [V16_v28]; exact vec_g _

theorem B8 (c : Dev nD) : W17 m ρ c main_v29 = fun i : S8448x4096.Idx => norm3 (wt m c) (xr m c (i 0)) (yr m c (i 0)) (yd m c (i 0)) (i 1) := by
  refine (W17_arr m ρ c 2).trans ((val8 (V16 m ρ) c).trans ?_)
  funext i
  have key : ∀ (r : Fin 8448) (j : Fin 4096), rms (arr (n := 4096) (φ := .f32) (V16 m ρ c main_v26) r) (arr (n := 4096) (φ := .f32) (V16 m ρ c main_v28) (0 : Fin 1)) j = norm3 (wt m c) (xr m c r) (yr m c r) (yd m c r) j := by
    intro r j
    rw [A26, A28]
    rfl
  exact key (i 0) (i 1)

theorem A29 (c : Dev nD) (i : Fin 8448) : arr (n := 4096) (φ := .bf16) (V18 m ρ c main_v29) i = norm3 (wt m c) (xr m c i) (yr m c i) (yd m c i) :=
  funext fun j => congrFun ((W18_of m ρ c main_v29 (by decide)).trans (B8 m ρ c)) (ix2 i j)
theorem A26' (c : Dev nD) (i : Fin 8448) : arr (n := 4096) (φ := .f32) (V18 m ρ c main_v26) i = row2 (wt m c) (xr m c i) (yr m c i) (yd m c i) :=
  funext fun j => congrFun (((W18_of m ρ c main_v26 (by decide)).trans ((W17_of m ρ c main_v26 (by decide)).trans (W16_of m ρ c main_v26 (by decide)))).trans (B7 m ρ c)) (ix2 i j)
theorem A31 (c : Dev nD) (i : Fin 256) : arr (n := 256) (φ := .f32) (V18 m ρ c main_v31) i = pe m c i := by
  rw [V18_v31]; exact pe_at _ i
theorem A32 (c : Dev nD) : arr (n := 4096) (φ := .f32) (V18 m ρ c main_v32) = (wt m c).wg := by
  rw [V18_v32]; exact mat_o _
theorem A33 (c : Dev nD) : arr (n := 4096) (φ := .f32) (V18 m ρ c main_v33) = (wt m c).wp := by
  rw [V18_v33]; exact mat_p _

/-- The sample rows after the per-layer embedding. -/
theorem B9 (c : Dev nD) : W19 m ρ c main_v34 = fun i : S256x4096.Idx =>
    row3 (wt m c) (xr m c (sRow (i 0))) (yr m c (sRow (i 0))) (yd m c (sRow (i 0))) (pe m c (i 0)) (i 1) := by
  refine (W19_arr m ρ c 5).trans ((val9 (V18 m ρ) c).trans ?_)
  funext i
  have key : ∀ (r : Fin 256) (j : Fin 4096), emb (arr (n := 4096) (φ := .f32) (V18 m ρ c main_v26) (sRow r)) (arr (n := 4096) (φ := .bf16) (V18 m ρ c main_v29) (sRow r)) (arr (n := 4096) (φ := .f32) (V18 m ρ c main_v32)) (arr (n := 256) (φ := .f32) (V18 m ρ c main_v31) r) (arr (n := 4096) (φ := .f32) (V18 m ρ c main_v33)) j
      = row3 (wt m c) (xr m c (sRow r)) (yr m c (sRow r)) (yd m c (sRow r)) (pe m c r) j := by
    intro r j
    rw [A26', A29, A31, A32, A33]
    rfl
  exact key (i 0) (i 1)

/-! The results at the end. -/

theorem E7 (c : Dev nD) : W19 m ρ c main_v7 = fun i : S8448x6656.Idx => proj (wt m c) (xr m c (i 0)) ⟨0 + (i 1).val, by have : (i 1).val < 6656 := (i 1).isLt; omega⟩ :=
  ((W19_of m ρ c main_v7 (by decide)).trans ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans (W5_of m ρ c main_v7 (by decide)))))))))))))))).trans (W_r m ρ c)
theorem E8 (c : Dev nD) : W19 m ρ c main_v8 = fun i : S8448x14336.Idx => proj (wt m c) (xr m c (i 0)) ⟨6496 + (i 1).val, by have : (i 1).val < 14336 := (i 1).isLt; omega⟩ :=
  ((W19_of m ρ c main_v8 (by decide)).trans ((W18_of m ρ c main_v8 (by decide)).trans ((W17_of m ρ c main_v8 (by decide)).trans ((W16_of m ρ c main_v8 (by decide)).trans ((W15_of m ρ c main_v8 (by decide)).trans ((W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans (W6_of m ρ c main_v8 (by decide))))))))))))))).trans (W_a m ρ c)
theorem E26 (c : Dev nD) : W19 m ρ c main_v26 = fun i : S8448x4096.Idx => row2 (wt m c) (xr m c (i 0)) (yr m c (i 0)) (yd m c (i 0)) (i 1) :=
  ((W19_of m ρ c main_v26 (by decide)).trans ((W18_of m ρ c main_v26 (by decide)).trans ((W17_of m ρ c main_v26 (by decide)).trans (W16_of m ρ c main_v26 (by decide))))).trans (B7 m ρ c)
theorem E29 (c : Dev nD) : W19 m ρ c main_v29 = fun i : S8448x4096.Idx => norm3 (wt m c) (xr m c (i 0)) (yr m c (i 0)) (yd m c (i 0)) (i 1) :=
  ((W19_of m ρ c main_v29 (by decide)).trans (W18_of m ρ c main_v29 (by decide))).trans (B8 m ρ c)

end Cert.LayerIdeal.Val
end
-- ==== Proof.LayerRun.lean ====
/- The layer's run with its five results named: the launch over the segments, each result read at the last boundary. -/
module
public import proofs.«01_k».proof.Proof.LayerChain
@[expose] public section
set_option maxRecDepth 16384
noncomputable section
namespace Cert.LayerIdeal.Val
open Cert.Spec Cert.LayerIdeal Cert.LayerIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first result: columns 0 … 6655 of the projection. -/
def resR (c : Dev nD) : Buf (Elt Ideal) ((c : Thread nD τ).loc main_v7) :=
  fun i : S8448x6656.Idx => proj (wt m c) (xr m c (i 0)) ⟨0 + (i 1).val, by have : (i 1).val < 6656 := (i 1).isLt; omega⟩
/-- The second result: columns 6496 … 20831 of the projection. -/
def resA (c : Dev nD) : Buf (Elt Ideal) ((c : Thread nD τ).loc main_v8) :=
  fun i : S8448x14336.Idx => proj (wt m c) (xr m c (i 0)) ⟨6496 + (i 1).val, by have : (i 1).val < 14336 := (i 1).isLt; omega⟩
/-- The third result: the rows after the feed-forward part. -/
def resX (c : Dev nD) : Buf (Elt Ideal) ((c : Thread nD τ).loc main_v26) := fun i : S8448x4096.Idx => row2 (wt m c) (xr m c (i 0)) (yr m c (i 0)) (yd m c (i 0)) (i 1)
/-- The fourth result: those rows normalised for the per-layer embedding. -/
def resH (c : Dev nD) : Buf (Elt Ideal) ((c : Thread nD τ).loc main_v29) := fun i : S8448x4096.Idx => norm3 (wt m c) (xr m c (i 0)) (yr m c (i 0)) (yd m c (i 0)) (i 1)
/-- The fifth result: the sample rows after the per-layer embedding. -/
def resS (c : Dev nD) : Buf (Elt Ideal) ((c : Thread nD τ).loc main_v34) := fun i : S256x4096.Idx => row3 (wt m c) (xr m c (sRow (i 0))) (yr m c (sRow (i 0))) (yd m c (sRow (i 0))) (pe m c (i 0)) (i 1)

set_option backward.isDefEq.respectTransparency.types false in
/-- Every weakly fair execution ends with the results named and the arguments unchanged. -/
theorem run : θ_run defs (onTc (τ := τ) (main (F := Ideal))) ⟨m, fun _ => 0, ρ⟩ (fun r => ∀ c : Dev nD,
      r.2.mem ((c.tc : Thread nD τ).loc main_v7) = resR m c
      ∧ r.2.mem ((c.tc : Thread nD τ).loc main_v8) = resA m c
      ∧ r.2.mem ((c.tc : Thread nD τ).loc main_v26) = resX m c
      ∧ r.2.mem ((c.tc : Thread nD τ).loc main_v29) = resH m c
      ∧ r.2.mem ((c.tc : Thread nD τ).loc main_v34) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ c =>
      ⟨(h c _ (mem_uc main_v7 (by decide))).trans (E7 m ρ c),
       (h c _ (mem_uc main_v8 (by decide))).trans (E8 m ρ c),
       (h c _ (mem_uc main_v26 (by decide))).trans (E26 m ρ c),
       (h c _ (mem_uc main_v29 (by decide))).trans (E29 m ρ c),
       (h c _ (mem_uc main_v34 (by decide))).trans (B9 m ρ c),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c)⟩)

end Cert.LayerIdeal.Val
end
-- ==== Proof.LayerReference.lean ====
/- The reference's stages, each read as rows of the arguments. -/
module
public import proofs.«01_k».proof.Proof.Gen.LayerRefIdeal.Read
public import Idealize.ShloMosaic.Lib.IdealHost
public import proofs.«01_k».proof.Proof.Spec
@[expose] public section
set_option maxRecDepth 16384
noncomputable section
namespace Cert.LayerRefIdeal.Val
open Cert.LayerRefIdeal Cert.LayerRefIdeal.Gen Cert.LayerRefIdeal.Read Idealize.ShloMosaic Cert.Spec

variable (x0 : FVec Ideal S4x2048x4096 .f32) (x1 : FVec Ideal S8x32x4096 .f32) (x2 : FVec Ideal S1x8x32x256 .f32)
  (x3 : FVec Ideal S1x4096 .f32) (x4 : FVec Ideal S1x4096x20832 .f32) (x5 : FVec Ideal S4x2048x2048 .bf16) (x6 : FVec Ideal S8x32x2048 .bf16)
  (x7 : FVec Ideal S4x2048x2048 .bf16) (x8 : FVec Ideal S8x32x2048 .bf16) (x9 x10 : FVec Ideal S1x2048x4096 .f32) (x11 : FVec Ideal S1x4096x4096 .f32)
  (x12 : FVec Ideal S1x4096 .f32) (x13 : FVec Ideal S1x4096x16384 .f32) (x14 : FVec Ideal S1x16384x4096 .f32) (x15 : FVec Ideal S1x4096 .f32)
  (x16 : FVec Ideal S1x4096x4096 .f32) (x17 : FVec Ideal S1x256x4096 .f32)

theorem v22_at (b : Fin 4) (t : Fin 2048) (j : Fin 20832) : val_main_v22 (F := Ideal) x0 x3 x4 (ix3 b t j)
    = proj (Weights.of x3 x4 x9 x10 x11 x12 x13 x14 x15 x16 x17) (fun k => x0 (ix3 b t k)) j := by
  pointwise [val_main_v22, val_main_v8, val_main_v21, val_main_v20, val_main_v19, val_main_v7, val_main_v18, val_main_v17, val_main_v16, val_main_v15, val_main_v14, val_main_cst_1, val_main_v13, val_main_v12, val_main_cst_0, val_main_v11, val_main_v10, val_main_cst, val_main_v9, proj, lin, rms, vec, mat, Weights.of]

/-- The second gate's columns follow the first's. -/
theorem second_gate (j : Fin 4096) (h : 12640 + (4096 + j.val) < 20832) : (⟨12640 + (4096 + j.val), h⟩ : Fin 20832) = ⟨16736 + j.val, by omega⟩ :=
  Fin.ext (by show 12640 + (4096 + j.val) = 16736 + j.val; omega)

theorem v38_at (b : Fin 4) (t : Fin 2048) (j : Fin 4096) : val_main_v38 (F := Ideal) x0 x3 x4 x5 x7 x9 x10 (ix3 b t j)
    = mixed (Weights.of x3 x4 x9 x10 x11 x12 x13 x14 x15 x16 x17) (fun k => x0 (ix3 b t k)) (fun k => x5 (ix3 b t k)) (fun k => x7 (ix3 b t k)) j := by
  pointwise [val_main_v38, val_main_v37, val_main_v36, val_main_v1, val_main_v35, val_main_v34, val_main_v29, val_main_v27, val_main_v25, val_main_v24, val_main_v23, val_main_v26, val_main_cst_2, val_main_v28, val_main_cst_3, val_main_v33, val_main_v32, val_main_v0, val_main_v31, val_main_v30, v22_at x0 x3 x4 x9 x10 x11 x12 x13 x14 x15 x16 x17, mixed, gated, sigmoid, Ideal.logistic, Ideal.ofBits_one_f32, lin, mat, Weights.of]
  rw [second_gate]

theorem v40_at (b : Fin 4) (t : Fin 2048) (j : Fin 4096) : val_main_v40 (F := Ideal) x0 x3 x4 x5 x7 x9 x10 x11 (ix3 b t j)
    = row1 (Weights.of x3 x4 x9 x10 x11 x12 x13 x14 x15 x16 x17) (fun k => x0 (ix3 b t k)) (fun k => x5 (ix3 b t k)) (fun k => x7 (ix3 b t k)) j := by
  pointwise [val_main_v40, val_main_v39, val_main_v2, v38_at x0 x3 x4 x5 x7 x9 x10 x11 x12 x13 x14 x15 x16 x17, row1, lin, mat, Weights.of]

theorem v53_at (b : Fin 4) (t : Fin 2048) (j : Fin 4096) : val_main_v53 (F := Ideal) x0 x3 x4 x5 x7 x9 x10 x11 x12 (ix3 b t j)
    = rms (row1 (Weights.of x3 x4 x9 x10 x11 x12 x13 x14 x15 x16 x17) (fun k => x0 (ix3 b t k)) (fun k => x5 (ix3 b t k)) (fun k => x7 (ix3 b t k))) (vec x12) j := by
  pointwise [val_main_v53, val_main_v52, val_main_v51, val_main_v3, val_main_v50, val_main_v49, val_main_v48, val_main_v47, val_main_v46, val_main_cst_6, val_main_v45, val_main_v44, val_main_cst_5, val_main_v43, val_main_v42, val_main_cst_4, val_main_v41, v40_at x0 x3 x4 x5 x7 x9 x10 x11 x12 x13 x14 x15 x16 x17, rms, vec]

theorem v56_at (b : Fin 4) (t : Fin 2048) (j : Fin 16384) : val_main_v56 (F := Ideal) x0 x3 x4 x5 x7 x9 x10 x11 x12 x13 (ix3 b t j)
    = Spec.inner (Weights.of x3 x4 x9 x10 x11 x12 x13 x14 x15 x16 x17) (fun k => x0 (ix3 b t k)) (fun k => x5 (ix3 b t k)) (fun k => x7 (ix3 b t k)) j := by
  pointwise [val_main_v56, val_main_v55, val_main_call0_v0, val_main_call0_cst, val_main_v54, val_main_v4, v53_at x0 x3 x4 x5 x7 x9 x10 x11 x12 x13 x14 x15 x16 x17, Spec.inner, relu2, lin, mat, Weights.of]

theorem v58_at (b : Fin 4) (t : Fin 2048) (j : Fin 4096) : val_main_v58 (F := Ideal) x0 x3 x4 x5 x7 x9 x10 x11 x12 x13 x14 (ix3 b t j)
    = row2 (Weights.of x3 x4 x9 x10 x11 x12 x13 x14 x15 x16 x17) (fun k => x0 (ix3 b t k)) (fun k => x5 (ix3 b t k)) (fun k => x7 (ix3 b t k)) j := by
  pointwise [val_main_v58, val_main_v57, val_main_v5, v40_at x0 x3 x4 x5 x7 x9 x10 x11 x12 x13 x14 x15 x16 x17, v56_at x0 x3 x4 x5 x7 x9 x10 x11 x12 x13 x14 x15 x16 x17, row2, lin, mat, Weights.of]

theorem v71_at (b : Fin 4) (t : Fin 2048) (j : Fin 4096) : val_main_v71 (F := Ideal) x0 x3 x4 x5 x7 x9 x10 x11 x12 x13 x14 x15 (ix3 b t j)
    = norm3 (Weights.of x3 x4 x9 x10 x11 x12 x13 x14 x15 x16 x17) (fun k => x0 (ix3 b t k)) (fun k => x5 (ix3 b t k)) (fun k => x7 (ix3 b t k)) j := by
  pointwise [val_main_v71, val_main_v70, val_main_v69, val_main_v6, val_main_v68, val_main_v67, val_main_v66, val_main_v65, val_main_v64, val_main_cst_9, val_main_v63, val_main_v62, val_main_cst_8, val_main_v61, val_main_v60, val_main_cst_7, val_main_v59, v58_at x0 x3 x4 x5 x7 x9 x10 x11 x12 x13 x14 x15 x16 x17, norm3, rms, vec, Weights.of]

theorem v87_at (b : Fin 8) (t : Fin 32) (j : Fin 20832) : val_main_v87 (F := Ideal) x1 x3 x4 (ix3 b t j)
    = proj (Weights.of x3 x4 x9 x10 x11 x12 x13 x14 x15 x16 x17) (fun k => x1 (ix3 b t k)) j := by
  pointwise [val_main_v87, val_main_v73, val_main_v86, val_main_v85, val_main_v84, val_main_v72, val_main_v83, val_main_v82, val_main_v81, val_main_v80, val_main_v79, val_main_cst_12, val_main_v78, val_main_v77, val_main_cst_11, val_main_v76, val_main_v75, val_main_cst_10, val_main_v74, proj, lin, rms, vec, mat, Weights.of]

theorem v103_at (b : Fin 8) (t : Fin 32) (j : Fin 4096) : val_main_v103 (F := Ideal) x1 x3 x4 x6 x8 x9 x10 (ix3 b t j)
    = mixed (Weights.of x3 x4 x9 x10 x11 x12 x13 x14 x15 x16 x17) (fun k => x1 (ix3 b t k)) (fun k => x6 (ix3 b t k)) (fun k => x8 (ix3 b t k)) j := by
  pointwise [val_main_v103, val_main_v102, val_main_v101, val_main_v1, val_main_v100, val_main_v99, val_main_v94, val_main_v92, val_main_v90, val_main_v89, val_main_v88, val_main_v91, val_main_cst_13, val_main_v93, val_main_cst_14, val_main_v98, val_main_v97, val_main_v0, val_main_v96, val_main_v95, v87_at x1 x3 x4 x9 x10 x11 x12 x13 x14 x15 x16 x17, mixed, gated, sigmoid, Ideal.logistic, Ideal.ofBits_one_f32, lin, mat, Weights.of]
  rw [second_gate]

theorem v105_at (b : Fin 8) (t : Fin 32) (j : Fin 4096) : val_main_v105 (F := Ideal) x1 x3 x4 x6 x8 x9 x10 x11 (ix3 b t j)
    = row1 (Weights.of x3 x4 x9 x10 x11 x12 x13 x14 x15 x16 x17) (fun k => x1 (ix3 b t k)) (fun k => x6 (ix3 b t k)) (fun k => x8 (ix3 b t k)) j := by
  pointwise [val_main_v105, val_main_v104, val_main_v2, v103_at x1 x3 x4 x6 x8 x9 x10 x11 x12 x13 x14 x15 x16 x17, row1, lin, mat, Weights.of]

theorem v118_at (b : Fin 8) (t : Fin 32) (j : Fin 4096) : val_main_v118 (F := Ideal) x1 x3 x4 x6 x8 x9 x10 x11 x12 (ix3 b t j)
    = rms (row1 (Weights.of x3 x4 x9 x10 x11 x12 x13 x14 x15 x16 x17) (fun k => x1 (ix3 b t k)) (fun k => x6 (ix3 b t k)) (fun k => x8 (ix3 b t k))) (vec x12) j := by
  pointwise [val_main_v118, val_main_v117, val_main_v116, val_main_v3, val_main_v115, val_main_v114, val_main_v113, val_main_v112, val_main_v111, val_main_cst_17, val_main_v110, val_main_v109, val_main_cst_16, val_main_v108, val_main_v107, val_main_cst_15, val_main_v106, v105_at x1 x3 x4 x6 x8 x9 x10 x11 x12 x13 x14 x15 x16 x17, rms, vec]

theorem v121_at (b : Fin 8) (t : Fin 32) (j : Fin 16384) : val_main_v121 (F := Ideal) x1 x3 x4 x6 x8 x9 x10 x11 x12 x13 (ix3 b t j)
    = Spec.inner (Weights.of x3 x4 x9 x10 x11 x12 x13 x14 x15 x16 x17) (fun k => x1 (ix3 b t k)) (fun k => x6 (ix3 b t k)) (fun k => x8 (ix3 b t k)) j := by
  pointwise [val_main_v121, val_main_v120, val_main_call1_v0, val_main_call1_cst, val_main_v119, val_main_v4, v118_at x1 x3 x4 x6 x8 x9 x10 x11 x12 x13 x14 x15 x16 x17, Spec.inner, relu2, lin, mat, Weights.of]

theorem v123_at (b : Fin 8) (t : Fin 32) (j : Fin 4096) : val_main_v123 (F := Ideal) x1 x3 x4 x6 x8 x9 x10 x11 x12 x13 x14 (ix3 b t j)
    = row2 (Weights.of x3 x4 x9 x10 x11 x12 x13 x14 x15 x16 x17) (fun k => x1 (ix3 b t k)) (fun k => x6 (ix3 b t k)) (fun k => x8 (ix3 b t k)) j := by
  pointwise [val_main_v123, val_main_v122, val_main_v5, v105_at x1 x3 x4 x6 x8 x9 x10 x11 x12 x13 x14 x15 x16 x17, v121_at x1 x3 x4 x6 x8 x9 x10 x11 x12 x13 x14 x15 x16 x17, row2, lin, mat, Weights.of]

theorem v136_at (b : Fin 8) (t : Fin 32) (j : Fin 4096) : val_main_v136 (F := Ideal) x1 x3 x4 x6 x8 x9 x10 x11 x12 x13 x14 x15 (ix3 b t j)
    = norm3 (Weights.of x3 x4 x9 x10 x11 x12 x13 x14 x15 x16 x17) (fun k => x1 (ix3 b t k)) (fun k => x6 (ix3 b t k)) (fun k => x8 (ix3 b t k)) j := by
  pointwise [val_main_v136, val_main_v135, val_main_v134, val_main_v6, val_main_v133, val_main_v132, val_main_v131, val_main_v130, val_main_v129, val_main_cst_20, val_main_v128, val_main_v127, val_main_cst_19, val_main_v126, val_main_v125, val_main_cst_18, val_main_v124, v123_at x1 x3 x4 x6 x8 x9 x10 x11 x12 x13 x14 x15 x16 x17, norm3, rms, vec, Weights.of]

theorem v149_at (b : Fin 8) (t : Fin 32) (j : Fin 4096) : val_main_v149 (F := Ideal) x1 x2 x3 x4 x6 x8 x9 x10 x11 x12 x13 x14 x15 x16 x17 (ix3 b t j)
    = row3 (Weights.of x3 x4 x9 x10 x11 x12 x13 x14 x15 x16 x17) (fun k => x1 (ix3 b t k)) (fun k => x6 (ix3 b t k)) (fun k => x8 (ix3 b t k)) (fun k => x2 (ix4 0 b t k)) j := by
  pointwise [val_main_v149, val_main_v148, val_main_v147, val_main_v146, val_main_v137, val_main_v145, val_main_v143, val_main_v141, val_main_v140, val_main_v139, val_main_v138, val_main_v142, val_main_cst_21, val_main_v144, val_main_cst_22, v123_at x1 x3 x4 x6 x8 x9 x10 x11 x12 x13 x14 x15 x16 x17, v136_at x1 x3 x4 x6 x8 x9 x10 x11 x12 x13 x14 x15 x16 x17, row3, emb, sigmoid, Ideal.logistic, Ideal.ofBits_one_f32, lin, mat, Weights.of]

theorem v152_at (i : Fin 8448) (j : Fin 20832) : val_main_v152 (F := Ideal) x0 x1 x3 x4 (ix2 i j) = proj (Weights.of x3 x4 x9 x10 x11 x12 x13 x14 x15 x16 x17) (rowsOf (φ := .f32) x0 x1 i) j := by
  pointwise [val_main_v152, val_main_v151, val_main_v150, v22_at x0 x3 x4 x9 x10 x11 x12 x13 x14 x15 x16 x17, v87_at x1 x3 x4 x9 x10 x11 x12 x13 x14 x15 x16 x17]
  by_cases h : i.val < 8192
  · rw [dif_pos h, rowsOf_prompt _ _ _ h]
  · rw [dif_neg h, rowsOf_sample _ _ _ h]

theorem v153_fn : val_main_v153 (F := Ideal) x0 x1 x3 x4 = fun i : S8448x6656.Idx => proj (Weights.of x3 x4 x9 x10 x11 x12 x13 x14 x15 x16 x17) (rowsOf (φ := .f32) x0 x1 (i 0)) ⟨0 + (i 1).val, by have : (i 1).val < 6656 := (i 1).isLt; omega⟩ := by
  funext i
  idx_vars i
  pointwise [val_main_v153, v152_at x0 x1 x3 x4 x9 x10 x11 x12 x13 x14 x15 x16 x17]

theorem v154_fn : val_main_v154 (F := Ideal) x0 x1 x3 x4 = fun i : S8448x14336.Idx => proj (Weights.of x3 x4 x9 x10 x11 x12 x13 x14 x15 x16 x17) (rowsOf (φ := .f32) x0 x1 (i 0)) ⟨6496 + (i 1).val, by have : (i 1).val < 14336 := (i 1).isLt; omega⟩ := by
  funext i
  idx_vars i
  pointwise [val_main_v154, v152_at x0 x1 x3 x4 x9 x10 x11 x12 x13 x14 x15 x16 x17]

theorem v157_at (i : Fin 8448) (j : Fin 4096) : val_main_v157 (F := Ideal) x0 x1 x3 x4 x5 x6 x7 x8 x9 x10 x11 x12 x13 x14 (ix2 i j) = row2 (Weights.of x3 x4 x9 x10 x11 x12 x13 x14 x15 x16 x17) (rowsOf (φ := .f32) x0 x1 i) (rowsOf (φ := .bf16) x5 x6 i) (rowsOf (φ := .bf16) x7 x8 i) j := by
  pointwise [val_main_v157, val_main_v156, val_main_v155, v58_at x0 x3 x4 x5 x7 x9 x10 x11 x12 x13 x14 x15 x16 x17, v123_at x1 x3 x4 x6 x8 x9 x10 x11 x12 x13 x14 x15 x16 x17]
  by_cases h : i.val < 8192
  · rw [dif_pos h, rowsOf_prompt _ _ _ h, rowsOf_prompt _ _ _ h, rowsOf_prompt _ _ _ h]
  · rw [dif_neg h, rowsOf_sample _ _ _ h, rowsOf_sample _ _ _ h, rowsOf_sample _ _ _ h]

theorem v161_at (i : Fin 8448) (j : Fin 4096) : val_main_v161 (F := Ideal) x0 x1 x3 x4 x5 x6 x7 x8 x9 x10 x11 x12 x13 x14 x15 (ix2 i j) = norm3 (Weights.of x3 x4 x9 x10 x11 x12 x13 x14 x15 x16 x17) (rowsOf (φ := .f32) x0 x1 i) (rowsOf (φ := .bf16) x5 x6 i) (rowsOf (φ := .bf16) x7 x8 i) j := by
  pointwise [val_main_v161, val_main_v160, val_main_v159, val_main_v158, v71_at x0 x3 x4 x5 x7 x9 x10 x11 x12 x13 x14 x15 x16 x17, v136_at x1 x3 x4 x6 x8 x9 x10 x11 x12 x13 x14 x15 x16 x17]
  by_cases h : i.val < 8192
  · rw [dif_pos h, rowsOf_prompt _ _ _ h, rowsOf_prompt _ _ _ h, rowsOf_prompt _ _ _ h]
  · rw [dif_neg h, rowsOf_sample _ _ _ h, rowsOf_sample _ _ _ h, rowsOf_sample _ _ _ h]

theorem v157_fn : val_main_v157 (F := Ideal) x0 x1 x3 x4 x5 x6 x7 x8 x9 x10 x11 x12 x13 x14 = fun i : S8448x4096.Idx => row2 (Weights.of x3 x4 x9 x10 x11 x12 x13 x14 x15 x16 x17) (rowsOf (φ := .f32) x0 x1 (i 0)) (rowsOf (φ := .bf16) x5 x6 (i 0)) (rowsOf (φ := .bf16) x7 x8 (i 0)) (i 1) := by
  funext i
  idx_vars i
  exact v157_at ..

theorem v161_fn : val_main_v161 (F := Ideal) x0 x1 x3 x4 x5 x6 x7 x8 x9 x10 x11 x12 x13 x14 x15 = fun i : S8448x4096.Idx => norm3 (Weights.of x3 x4 x9 x10 x11 x12 x13 x14 x15 x16 x17) (rowsOf (φ := .f32) x0 x1 (i 0)) (rowsOf (φ := .bf16) x5 x6 (i 0)) (rowsOf (φ := .bf16) x7 x8 (i 0)) (i 1) := by
  funext i
  idx_vars i
  exact v161_at ..

/-- The rows of the second group, counted from its start. -/
theorem rowsOf_sRow {n : ℕ} {φ : FTy} (p : FVec Ideal ⟨3, ![4, 2048, n]⟩ φ) (s : FVec Ideal ⟨3, ![8, 32, n]⟩ φ) (i : Fin 256) :
    rowsOf p s (sRow i) = fun k => s (ix3 ⟨i.val / 32, by omega⟩ ⟨i.val % 32, Nat.mod_lt _ (by decide)⟩ k) := by
  rw [rowsOf_sample _ _ _ (show ¬ (sRow i).val < 8192 by show ¬ 8192 + i.val < 8192; omega)]
  funext k
  exact congrArg₂ (fun a b => s (ix3 a b k)) (Fin.ext (by show (8192 + i.val - 8192) / 32 = i.val / 32; omega))
    (Fin.ext (by show (8192 + i.val - 8192) % 32 = i.val % 32; omega))

theorem v162_at (i : Fin 256) (j : Fin 4096) : val_main_v162 (F := Ideal) x1 x2 x3 x4 x6 x8 x9 x10 x11 x12 x13 x14 x15 x16 x17 (ix2 i j)
    = row3 (Weights.of x3 x4 x9 x10 x11 x12 x13 x14 x15 x16 x17) (rowsOf (φ := .f32) x0 x1 (sRow i)) (rowsOf (φ := .bf16) x5 x6 (sRow i)) (rowsOf (φ := .bf16) x7 x8 (sRow i)) (peS x2 i) j := by
  rw [rowsOf_sRow, rowsOf_sRow, rowsOf_sRow]
  pointwise [val_main_v162]
  exact v149_at ..

theorem v162_fn : val_main_v162 (F := Ideal) x1 x2 x3 x4 x6 x8 x9 x10 x11 x12 x13 x14 x15 x16 x17 = fun i : S256x4096.Idx => row3 (Weights.of x3 x4 x9 x10 x11 x12 x13 x14 x15 x16 x17) (rowsOf (φ := .f32) x0 x1 (sRow (i 0))) (rowsOf (φ := .bf16) x5 x6 (sRow (i 0))) (rowsOf (φ := .bf16) x7 x8 (sRow (i 0))) (peS x2 (i 0)) (i 1) := by
  funext i
  idx_vars i
  exact v162_at ..

end Cert.LayerRefIdeal.Val
end
-- ==== Proof.LayerValue.lean ====
/- The layer's kernel and its reference compute the same five results. -/
module
public import proofs.«01_k».proof.Defs
public import proofs.«01_k».proof.Proof.Gen.LayerIdeal
public import proofs.«01_k».proof.Proof.Gen.LayerRefIdeal
public import proofs.«01_k».proof.Proof.Gen.LayerRefIdeal.Run
public import proofs.«01_k».proof.Proof.LayerRun
public import proofs.«01_k».proof.Proof.LayerReference
@[expose] public section
set_option maxRecDepth 16384
noncomputable section
namespace Cert.Proof
open Idealize.ShloMosaic Idealize.ShloMosaic.TcCoe Idealize.SL.Sem

set_option maxHeartbeats 4000000 in
theorem layer_value : Cert.algebraic_LayerIdeal_LayerRefIdeal := by
  intro m g m' g' _ hagree
  refine ⟨Cert.LayerIdeal.Val.resR m, Cert.LayerIdeal.Val.resA m, Cert.LayerIdeal.Val.resX m, Cert.LayerIdeal.Val.resH m, Cert.LayerIdeal.Val.resS m,
    Cert.LayerIdeal.Val.run m g, ?_⟩
  refine (θ_run _ _ _).mono (fun r h c => ?_) (Cert.LayerRefIdeal.Value.run (F := Ideal) m' g')
  obtain ⟨h0, h1, h2, h3, h4, h5, h6, h7, h8, h9, h10, h11, h12, h13, h14, h15, h16, h17⟩ := hagree c
  obtain ⟨e0, e1, e2, e3, e4, hargs⟩ := h c
  refine ⟨e0.trans ?_, e1.trans ?_, e2.trans ?_, e3.trans ?_, e4.trans ?_, hargs⟩
  · refine (Cert.LayerRefIdeal.Read.val_main_v153_eq _).trans ((Cert.LayerRefIdeal.Val.v153_fn
      (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17))).trans ?_)
    rw [h0, h1, h3, h4, h9, h10, h11, h12, h13, h14, h15, h16, h17]
    rfl
  · refine (Cert.LayerRefIdeal.Read.val_main_v154_eq _).trans ((Cert.LayerRefIdeal.Val.v154_fn
      (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17))).trans ?_)
    rw [h0, h1, h3, h4, h9, h10, h11, h12, h13, h14, h15, h16, h17]
    rfl
  · refine (Cert.LayerRefIdeal.Read.val_main_v157_eq _).trans ((Cert.LayerRefIdeal.Val.v157_fn
      (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg5)) (m' ((c.tc : Thread Cert.LayerRefIdeal.nD Cert.LayerRefIdeal.τ).loc Cert.LayerRefIdeal.main_arg6)) (m' ((c.tc : Thread Cert.LayerRefIdeal.nD Cert.LayerRefIdeal.τ).loc Cert.LayerRefIdeal.main_arg7)) (m' ((c.tc : Thread Cert.LayerRefIdeal.nD Cert.LayerRefIdeal.τ).loc Cert.LayerRefIdeal.main_arg8)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17))).trans ?_)
    rw [h0, h1, h3, h4, h5, h6, h7, h8, h9, h10, h11, h12, h13, h14, h15, h16, h17]
    rfl
  · refine (Cert.LayerRefIdeal.Read.val_main_v161_eq _).trans ((Cert.LayerRefIdeal.Val.v161_fn
      (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg5)) (m' ((c.tc : Thread Cert.LayerRefIdeal.nD Cert.LayerRefIdeal.τ).loc Cert.LayerRefIdeal.main_arg6)) (m' ((c.tc : Thread Cert.LayerRefIdeal.nD Cert.LayerRefIdeal.τ).loc Cert.LayerRefIdeal.main_arg7)) (m' ((c.tc : Thread Cert.LayerRefIdeal.nD Cert.LayerRefIdeal.τ).loc Cert.LayerRefIdeal.main_arg8)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17))).trans ?_)
    rw [h0, h1, h3, h4, h5, h6, h7, h8, h9, h10, h11, h12, h13, h14, h15, h16, h17]
    rfl
  · refine (Cert.LayerRefIdeal.Read.val_main_v162_eq _).trans ((Cert.LayerRefIdeal.Val.v162_fn
      (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg2)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg5)) (m' ((c.tc : Thread Cert.LayerRefIdeal.nD Cert.LayerRefIdeal.τ).loc Cert.LayerRefIdeal.main_arg6)) (m' ((c.tc : Thread Cert.LayerRefIdeal.nD Cert.LayerRefIdeal.τ).loc Cert.LayerRefIdeal.main_arg7)) (m' ((c.tc : Thread Cert.LayerRefIdeal.nD Cert.LayerRefIdeal.τ).loc Cert.LayerRefIdeal.main_arg8)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17))).trans ?_)
    rw [h0, h1, h2, h3, h4, h5, h6, h7, h8, h9, h10, h11, h12, h13, h14, h15, h16, h17]
    rfl

theorem layer_frame_ref : Cert.quiescent_LayerRefIdeal := fun m ρ _ =>
  (θ_run Cert.LayerRefIdeal.defs _ _).mono
    (fun r h => ⟨fun c => (h c).2.2.2.2.2, Idealize.ShloMosaic.sem_eq_zero_of_no_sems (by decide) r.2⟩)
    (Cert.LayerRefIdeal.Value.run (F := Ideal) m ρ)

end Cert.Proof
end
-- ==== Proof.SpecPle.lean ====
/- Rows of the prompt, for the per-layer embedding. -/
module
public import proofs.«01_k».proof.Proof.Spec
@[expose] public section
noncomputable section
namespace Cert.Spec
open Idealize.ShloMosaic

/-- The embedding of prompt row `i`. -/
def peP (p : FVec Ideal ⟨4, ![1, 4, 2048, 256]⟩ .f32) (i : Fin 8192) (k : Fin 256) : EReal :=
  p (ix4 0 ⟨i.val / 2048, by omega⟩ ⟨i.val % 2048, Nat.mod_lt _ (by decide)⟩ k)

/-- The prompt row `i` among all rows. -/
def pRow (i : Fin 8192) : Fin 8448 := ⟨i.val, by omega⟩

end Cert.Spec
end
-- ==== Proof.PleRegion.lean ====
/- What the call for the prompt's per-layer embedding leaves in its result, and its run with the result named. -/
module
public import proofs.«01_k».proof.Proof.Gen.PlePromptIdeal.Frame
public import Idealize.ShloMosaic.Lib.Pipeline.ValueKit
public import Idealize.ShloMosaic.Lib.Pointwise
public import Idealize.ShloMosaic.Lib.Claim
public import proofs.«01_k».proof.Proof.SpecPle
@[expose] public section
set_option maxRecDepth 16384
noncomputable section
namespace Cert.PlePromptIdeal.Val
open Cert.Spec Cert.PlePromptIdeal Cert.PlePromptIdeal.Gen Idealize.ShloMosaic Idealize.ShloMosaic.TcCoe Idealize.SL.Sem
open Idealize.ShloMosaic.Pipeline (Dat)

theorem mat_o (w : FVec Ideal S1x4096x4096 .f32) : arr (shapeCast S4096x4096 w shapeCasts_S1x4096x4096_S4096x4096) = mat w := by
  funext k j; pointwise [arr, mat]
theorem mat_p (w : FVec Ideal S1x256x4096 .f32) : arr (shapeCast S256x4096 w shapeCasts_S1x256x4096_S256x4096) = mat w := by
  funext k j; pointwise [arr, mat]
theorem pe_at (p : FVec Ideal S1x4x2048x256 .f32) (i : Fin 8192) : arr (shapeCast S8192x256 (shapeCast S4x2048x256 p shapeCasts_S1x4x2048x256_S4x2048x256) shapeCasts_S4x2048x256_S8192x256) i = peP p i := by
  funext k; pointwise [arr, peP]

variable (m : (ℓ : Loc nD τ sig) → Buf (Elt Ideal) ℓ) (ρ : Dev nD → PrngReg)

theorem idx0 : ∀ t : Fin cfg0.N, win0_0.index t = ![t.val / 8, 0] ∧ win0_1.index t = ![0, t.val % 8] ∧ win0_2.index t = ![t.val / 8, 0] ∧ win0_3.index t = ![0, t.val % 8] ∧ win0_4.index t = ![t.val / 8, t.val % 8] ∧ win0_5.index t = ![t.val / 8, t.val % 8] :=
  (by decide +kernel : ∀ t : Fin grid0.N, _)

/-- Window 0's block, no part of it left unfilled. -/
theorem filled0 (c : Dev nD) (t : Fin cfg0.N) (j : S1024x4096.Idx) : X0_0 m c t j
    = (V m c main_arg0 : FVec Ideal S8448x4096 .bf16) (ix2 ⟨t.val / 8 * 1024 + (j 0).val, by have : t.val < 64 := t.isLt; have : (j 0).val < 1024 := (j 0).isLt; omega⟩
      ⟨(j 1).val, (j 1).isLt⟩) := by
  unfold X0_0 Pipeline.Window.fill
  rw [dif_pos (moved0_0 t j)]
  blk_point [iblk, idx0 t]
/-- Window 4's block, no part of it left unfilled. -/
theorem filled4 (c : Dev nD) (t : Fin cfg0.N) (j : S1024x512.Idx) : X0_4 m c t j
    = (V m c main_arg1 : FVec Ideal S8448x4096 .f32) (ix2 ⟨t.val / 8 * 1024 + (j 0).val, by have : t.val < 64 := t.isLt; have : (j 0).val < 1024 := (j 0).isLt; omega⟩
      ⟨t.val % 8 * 512 + (j 1).val, by have : t.val < 64 := t.isLt; have : (j 1).val < 512 := (j 1).isLt; omega⟩) := by
  unfold X0_4 Pipeline.Window.fill
  rw [dif_pos (moved0_4 t j)]
  blk_point [iblk, idx0 t]

/-- The result in the arrays the region reads. -/
theorem val0 (c : Dev nD) : (dats m 0 c).arrAt 5 cfg0.N
    = fun i : S8192x4096.Idx => emb (arr (n := 4096) (φ := .f32) (V m c main_arg1) (pRow (i 0))) (arr (n := 4096) (φ := .bf16) (V m c main_arg0) (pRow (i 0)))
        (arr (n := 4096) (φ := .f32) (V m c main_v2)) (arr (n := 256) (φ := .f32) (V m c main_v1) (i 0)) (arr (n := 4096) (φ := .f32) (V m c main_v3)) (i 1) := by
  refine (dats m 0 c).arrAt_eq_of_covers 5 _ (by decide +kernel) fun t _ y => ?_
  blk_simp
  rw [after0_5]; unfold outsAt0 out0_A_5; frame_out
  pointwise [k0_pay1, emb, lin, arr, pRow, sigmoid, filled0, filled4]
  blk_point [iblk, idx0 t]

theorem V_v1 (c : Dev nD) : V m c main_v1 = shapeCast S8192x256 (shapeCast S4x2048x256 (m ((c : Thread nD τ).loc main_arg2) : FVec Ideal S1x4x2048x256 .f32) shapeCasts_S1x4x2048x256_S4x2048x256) shapeCasts_S4x2048x256_S8192x256 := by
  unfold V
  after_results_simp <;> rfl
theorem V_v2 (c : Dev nD) : V m c main_v2 = shapeCast S4096x4096 (m ((c : Thread nD τ).loc main_arg3) : FVec Ideal S1x4096x4096 .f32) shapeCasts_S1x4096x4096_S4096x4096 := by
  unfold V
  after_results_simp <;> rfl
theorem V_v3 (c : Dev nD) : V m c main_v3 = shapeCast S256x4096 (m ((c : Thread nD τ).loc main_arg4) : FVec Ideal S1x256x4096 .f32) shapeCasts_S1x256x4096_S256x4096 := by
  unfold V
  after_results_simp <;> rfl

/-- The result in the arguments. -/
def res (c : Dev nD) : Buf (Elt Ideal) ((c : Thread nD τ).loc main_v4) :=
  fun i : S8192x4096.Idx => emb (arr (n := 4096) (φ := .f32) (m ((c : Thread nD τ).loc main_arg1)) (pRow (i 0))) (arr (n := 4096) (φ := .bf16) (m ((c : Thread nD τ).loc main_arg0)) (pRow (i 0)))
    (mat (K := 4096) (N := 4096) (φ := .f32) (m ((c : Thread nD τ).loc main_arg3))) (peP (m ((c : Thread nD τ).loc main_arg2)) (i 0))
    (mat (K := 256) (N := 4096) (φ := .f32) (m ((c : Thread nD τ).loc main_arg4))) (i 1)

theorem arr_res (c : Dev nD) : (dats m 0 c).arrAt 5 cfg0.N = res m c := by
  refine (val0 m c).trans ?_
  funext i
  rw [V_main_arg0, V_main_arg1, V_v1, V_v2, V_v3]
  refine congrFun (congr (congrArg₂ (emb _ _) (mat_o _) (pe_at _ _)) (mat_p _)) (i 1)

theorem run : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (arr_res m c), h.2 c⟩) (θ_run_and (run_main m ρ) (unchanged m ρ))

end Cert.PlePromptIdeal.Val
end
-- ==== Proof.PleReference.lean ====
/- The reference of the prompt's per-layer embedding, read as rows of its arguments. -/
module
public import proofs.«01_k».proof.Proof.Gen.PleRefIdeal.Read
public import Idealize.ShloMosaic.Lib.IdealHost
public import proofs.«01_k».proof.Proof.SpecPle
@[expose] public section
set_option maxRecDepth 16384
noncomputable section
namespace Cert.PleRefIdeal.Val
open Cert.PleRefIdeal Cert.PleRefIdeal.Gen Cert.PleRefIdeal.Read Idealize.ShloMosaic Cert.Spec

variable (x0 : FVec Ideal S8448x4096 .bf16) (x1 : FVec Ideal S8448x4096 .f32) (x2 : FVec Ideal S1x4x2048x256 .f32)
  (x3 : FVec Ideal S1x4096x4096 .f32) (x4 : FVec Ideal S1x256x4096 .f32)

theorem v18_at (i : Fin 8192) (j : Fin 4096) : val_main_v18 (F := Ideal) x0 x1 x2 x3 x4 (ix2 i j)
    = emb (arr x1 (pRow i)) (arr x0 (pRow i)) (mat x3) (peP x2 i) (mat x4) j := by
  pointwise [val_main_v18, val_main_v17, val_main_v16, val_main_v15, val_main_v14, val_main_v13, val_main_v12, val_main_cst_0, val_main_v11, val_main_v10, val_main_cst, val_main_v9, val_main_v8, val_main_v7, val_main_v6, val_main_v5, val_main_v4, val_main_v3, val_main_v2, val_main_v1, val_main_v0, emb, lin, arr, mat, peP, pRow, sigmoid, Ideal.logistic, Ideal.ofBits_one_f32]

theorem v18_fn : val_main_v18 (F := Ideal) x0 x1 x2 x3 x4 = fun i : S8192x4096.Idx =>
    emb (arr x1 (pRow (i 0))) (arr x0 (pRow (i 0))) (mat x3) (peP x2 (i 0)) (mat x4) (i 1) := by
  funext i
  idx_vars i
  exact v18_at x0 x1 x2 x3 x4 _ _
end Cert.PleRefIdeal.Val
end
-- ==== Proof.PleValue.lean ====
/- The prompt's per-layer embedding: the kernel's call and its reference compute the same result. -/
module
public import proofs.«01_k».proof.Defs
public import proofs.«01_k».proof.Proof.Gen.PlePromptIdeal
public import proofs.«01_k».proof.Proof.Gen.PleRefIdeal
public import proofs.«01_k».proof.Proof.Gen.PleRefIdeal.Run
public import proofs.«01_k».proof.Proof.PleRegion
public import proofs.«01_k».proof.Proof.PleReference
@[expose] public section
set_option maxRecDepth 16384
noncomputable section
namespace Cert.Proof
open Idealize.ShloMosaic Idealize.ShloMosaic.TcCoe Idealize.SL.Sem

theorem ple_value : Cert.algebraic_PlePromptIdeal_PleRefIdeal := by
  intro m g m' g' _ hagree
  refine ⟨Cert.PlePromptIdeal.Val.res m, Cert.PlePromptIdeal.Val.run m g, ?_⟩
  refine (θ_run _ _ _).mono (fun r h c => ?_) (Cert.PleRefIdeal.Value.run (F := Ideal) m' g')
  obtain ⟨h0, h1, h2, h3, h4⟩ := hagree c
  obtain ⟨e0, hargs⟩ := h c
  refine ⟨e0.trans ?_, hargs⟩
  refine (Cert.PleRefIdeal.Read.val_main_v18_eq _ _ _ _ _).trans ((Cert.PleRefIdeal.Val.v18_fn _ _ _ _ _).trans ?_)
  rw [h0, h1, h2, h3, h4]
  rfl

theorem ple_frame_ref : Cert.quiescent_PleRefIdeal := fun m ρ _ =>
  (θ_run Cert.PleRefIdeal.defs _ _).mono
    (fun r h => ⟨fun c => (h c).2, Idealize.ShloMosaic.sem_eq_zero_of_no_sems (by decide) r.2⟩)
    (Cert.PleRefIdeal.Value.run (F := Ideal) m ρ)

end Cert.Proof
end
-- ==== Proof.KeysR0.lean ====
/- What `rmsnorm_cat` and `proj_attn` leave in their output arrays, as formulas in the arrays they read. -/
module
public import proofs.«01_k».proof.Proof.Gen.KeysIdeal.Frame
public import Idealize.ShloMosaic.Lib.Pipeline.ValueKit
public import Idealize.ShloMosaic.Lib.Pointwise
public import Idealize.ShloMosaic.Lib.Claim
public import proofs.«01_k».proof.Proof.Spec
@[expose] public section
set_option maxRecDepth 16384
noncomputable section
namespace Cert.KeysIdeal.Val
open Cert.Spec
open Cert.KeysIdeal Cert.KeysIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- `∑ k, a[i, k] · b[r, k]`: a row of `a` against a row of `b`. -/
def dotT {φ ψ : FTy} (a : FVec Ideal S8448x4096 φ) (b : FVec Ideal S20832x4096 ψ) (i : Fin 8448) (r : Fin 20832) : EReal :=
  ∑ k : Fin 4096, a (ix2 i k) * b (ix2 r k)

theorem idx1 : ∀ t : Fin cfg1.N, win1_0.index t = ![t.val / 28, 0] ∧ win1_2.index t = ![t.val / 28, t.val % 28] := (by decide +kernel : ∀ t : Fin grid1.N, _)

theorem elem1 (t : Fin cfg1.N) (y : (win1_1.xblock (grid1.coords t)).Idx) :
    (((View.whole main_v6).slice (win1_1.rect t)).emb y 0).val = 6496 + t.val % 28 * 512 + (y 0).val
    ∧ (((View.whole main_v6).slice (win1_1.rect t)).emb y 1).val = (y 1).val := by
  have h : ∀ t : Fin cfg1.N, win1_1.index t = ![6496 + t.val % 28 * 512, 0] := (by decide +kernel : ∀ t : Fin grid1.N, _)
  constructor
  · exact (win1_1.rect_emb_val_off t y 0).trans (by rw [h t]; rfl)
  · exact (win1_1.rect_emb_val_off t y 1).trans (by rw [h t]; exact Nat.zero_add _)

theorem val1 (c : Dev nD) : (dat1 V c).arrAt 2 cfg1.N
    = fun i : S8448x14336.Idx => dotT (φ := .bf16) (ψ := .f32) (V c main_v4_1) (V c main_v6) (i 0) ⟨6496 + (i 1).val, by have : (i 1).val < 14336 := (i 1).isLt; omega⟩ := by
  refine (dat1 V c).arrAt_eq_of_covers 2 _ (by decide +kernel) fun t _ y => ?_
  blk_simp
  rw [after1_2]; frame_out
  pointwise [k1_pay1, dotT]
  blk_point [iblk1, idx1 t]
  · refine (elem1 t _).1.trans ?_
    show 6496 + t.val % 28 * 512 + (y 1).val = 6496 + (t.val % 28 * 512 + (y 1).val)
    omega
  · exact (elem1 t _).2

theorem idx0 : ∀ t : Fin cfg0.N, win0_0.index t = ![min t.val 31, 0] ∧ win0_1.index t = ![t.val - 32, 0] ∧ win0_2.index t = ![0, 0] ∧ win0_3.index t = ![t.val, 0] ∧ win0_4.index t = ![t.val, 0] :=
  (by decide +kernel : ∀ t : Fin grid0.N, _)
theorem sel0 : ∀ t : Fin cfg0.N, Scalar.cmpi .slt (BitVec.ofNat 32 (grid0.coords t 0).val) 32#32 = if t.val < 32 then 1#1 else 0#1 :=
  (by decide +kernel : ∀ t : Fin grid0.N, _)

/-- The two groups' rows one under the other. -/
def cat (xp : FVec Ideal S8192x4096 .f32) (xs : FVec Ideal S256x4096 .f32) : FVec Ideal S8448x4096 .f32 := fun i =>
  if h : (i 0).val < 8192 then xp (ix2 ⟨(i 0).val, h⟩ (i 1)) else xs (ix2 ⟨(i 0).val - 8192, by have : (i 0).val < 8448 := (i 0).isLt; omega⟩ (i 1))

theorem select_one {α : Type} (a b : α) : Scalar.select 1#1 a b = a := rfl
theorem select_zero {α : Type} (a b : α) : Scalar.select 0#1 a b = b := rfl

/-- What the body takes as its rows at a point: the rows of `cat` its output block covers. -/
theorem rows0 (c : Dev nD) (t : Fin cfg0.N) (y : (win0_3.xblock (grid0.coords t)).Idx) :
    k0_pay1 (grid0.coords t) (iblk0 V c 0 t) (iblk0 V c 1 t) y = cat (V c main_v0) (V c main_v1) ((win0_3.blk t).view.emb y) := by
  pointwise [k0_pay1, cat]
  by_cases ht : t.val < 32
  · rw [sel0 t, if_pos ht, dif_pos (by blk_simp [idx0 t]; have : (y 0).val < 256 := (y 0).isLt; omega), select_one]
    blk_point [iblk0, idx0 t]
  · rw [sel0 t, if_neg ht, dif_neg (by blk_simp [idx0 t]; omega), select_zero]
    blk_point [iblk0, idx0 t]

theorem val0_3 (c : Dev nD) : (dat0 V c).arrAt 3 cfg0.N = cat (V c main_v0) (V c main_v1) := by
  refine (dat0 V c).arrAt_eq_of_covers 3 _ (by decide +kernel) fun t _ y => ?_
  blk_simp
  rw [after0_3]; frame_out
  exact rows0 V c t y

theorem val0_4 (c : Dev nD) : (dat0 V c).arrAt 4 cfg0.N
    = fun i : S8448x4096.Idx => rms (fun k => cat (V c main_v0) (V c main_v1) (ix2 (i 0) k)) (fun k => (V c main_v3 : FVec Ideal S1x4096 .f32) (ix2 0 k)) (i 1) := by
  refine (dat0 V c).arrAt_eq_of_covers 4 _ (by decide +kernel) fun t _ y => ?_
  blk_simp
  rw [after0_4]; frame_out
  pointwise [k0_pay2, rms]
  simp only [rows0]
  blk_point [iblk0, idx0 t]

end Cert.KeysIdeal.Val
end
-- ==== Proof.KeysSpec.lean ====
/- A key's row in plain formulas: the norm and the rotary turn of one component of 64 values, and the same worked out on
   128 lanes that hold two components. -/
module
public import proofs.«01_k».proof.Proof.Spec
@[expose] public section
set_option maxRecDepth 16384
noncomputable section
namespace Cert.Spec
open Idealize.ShloMosaic

/-- RMSNorm of one component `x` with the gain `g`. -/
def hnorm (x g : Fin 64 → EReal) (d : Fin 64) : EReal :=
  x d * Ideal.rsqrt (Ideal.div (∑ l : Fin 64, x l * x l) (Ideal.ofBits .f32 0x42800000#32)
    + Ideal.ofBits .f32 0x358637BD#32) * g d

/-- The rotary turn of one component: the first 16 values are turned in pairs `d`, `d + 8`. -/
def hrope (y : Fin 64 → EReal) (co si : Fin 8 → EReal) (d : Fin 64) : EReal :=
  if h : d.val < 8 then y d * co ⟨d.val, h⟩ - y ⟨d.val + 8, by omega⟩ * si ⟨d.val, h⟩
  else if h' : d.val < 16 then y ⟨d.val - 8, by omega⟩ * si ⟨d.val - 8, by omega⟩ + y d * co ⟨d.val - 8, by omega⟩
  else y d

/-- The turn as it reads when the turned pairs and the rest are put together again. -/
theorem hrope_nested (y : Fin 64 → EReal) (co si : Fin 8 → EReal) (d : Fin 64) :
    (if h : d.val < 16 then
        if h' : d.val < 8 then y d * co ⟨d.val, h'⟩ - y ⟨8 + d.val, by omega⟩ * si ⟨d.val, h'⟩
        else y ⟨d.val - 8, by omega⟩ * si ⟨d.val - 8, by omega⟩ + y ⟨8 + (d.val - 8), by omega⟩ * co ⟨d.val - 8, by omega⟩
      else y ⟨16 + (d.val - 16), by omega⟩) = hrope y co si d := by
  unfold hrope
  by_cases h : d.val < 8
  · rw [dif_pos (by omega), dif_pos h, dif_pos h]
    congr 3
    exact Fin.ext (by show 8 + d.val = d.val + 8; omega)
  · by_cases h' : d.val < 16
    · rw [dif_pos h', dif_neg h, dif_neg h, dif_pos h']
      congr 3
      exact Fin.ext (by show 8 + (d.val - 8) = d.val; omega)
    · rw [dif_neg h', dif_neg h, dif_neg h']
      exact congrArg y (Fin.ext (by show 16 + (d.val - 16) = d.val; omega))

/-- Value `d` of the component lane `l` belongs to. -/
def hd (l : Fin 128) (d : Fin 64) : Fin 128 := ⟨l.val / 64 * 64 + d.val, by omega⟩
/-- A lane's place in its component. -/
def lane (l : Fin 128) : Fin 64 := ⟨l.val % 64, Nat.mod_lt _ (by decide)⟩

theorem hd_lane (l : Fin 128) : hd l (lane l) = l := Fin.ext (by show l.val / 64 * 64 + l.val % 64 = l.val; omega)
theorem hd_hd (l : Fin 128) (d e : Fin 64) : hd (hd l d) e = hd l e :=
  Fin.ext (by show (l.val / 64 * 64 + d.val) / 64 * 64 + e.val = l.val / 64 * 64 + e.val; omega)
theorem lane_hd (l : Fin 128) (d : Fin 64) : lane (hd l d) = d :=
  Fin.ext (by show (l.val / 64 * 64 + d.val) % 64 = d.val; omega)

/-- The norm on 128 lanes: each lane by the mean of its own component. -/
def lnorm (x g : Fin 128 → EReal) (l : Fin 128) : EReal :=
  x l * Ideal.rsqrt (Ideal.div (∑ d : Fin 64, x (hd l d) * x (hd l d)) (Ideal.ofBits .f32 0x42800000#32)
    + Ideal.ofBits .f32 0x358637BD#32) * g l

theorem lnorm_hd (x g : Fin 128 → EReal) (l : Fin 128) (d : Fin 64) :
    lnorm x g (hd l d) = hnorm (fun e => x (hd l e)) (fun e => g (hd l e)) d := by
  unfold lnorm hnorm
  simp only [hd_hd]

/-- The turn on 128 lanes, with three tables: the lane itself, the lane 8 further on and the lane 8 before. -/
def turn (y c s1 s2 : Fin 128 → EReal) (l : Fin 128) : EReal :=
  y l * c l + y ⟨(l.val + 128 - 120) % 128, Nat.mod_lt _ (by decide)⟩ * s1 l
    + y ⟨(l.val + 128 - 8) % 128, Nat.mod_lt _ (by decide)⟩ * s2 l

/-- The tables of one component. -/
def tabC (co : Fin 8 → EReal) (d : Fin 64) : EReal :=
  if h : d.val < 8 then co ⟨d.val, h⟩ else if h' : d.val < 16 then co ⟨d.val - 8, by omega⟩ else 1
def tabA (si : Fin 8 → EReal) (d : Fin 64) : EReal := if h : d.val < 8 then -si ⟨d.val, h⟩ else 0
def tabB (si : Fin 8 → EReal) (d : Fin 64) : EReal :=
  if d.val < 8 then 0 else if h' : d.val < 16 then si ⟨d.val - 8, by omega⟩ else 0

theorem turn_eq (y : Fin 128 → EReal) (co si : Fin 8 → EReal) (l : Fin 128) :
    turn y (fun k => tabC co (lane k)) (fun k => tabA si (lane k)) (fun k => tabB si (lane k)) l
      = hrope (fun d => y (hd l d)) co si (lane l) := by
  have hl : (lane l).val = l.val % 64 := rfl
  unfold turn hrope tabC tabA tabB
  simp only [hd_lane]
  by_cases h : (lane l).val < 8
  · rw [dif_pos h, dif_pos h, if_pos h, dif_pos h, mul_zero, add_zero, mul_neg, ← sub_eq_add_neg]
    congr 3
    exact Fin.ext (by show (l.val + 128 - 120) % 128 = l.val / 64 * 64 + ((lane l).val + 8); omega)
  · by_cases h' : (lane l).val < 16
    · rw [dif_neg h, dif_pos h', dif_neg h, if_neg h, dif_pos h', dif_neg h, dif_pos h', mul_zero, add_zero, add_comm]
      congr 3
      exact Fin.ext (by show (l.val + 128 - 8) % 128 = l.val / 64 * 64 + ((lane l).val - 8); omega)
    · rw [dif_neg h, dif_neg h', dif_neg h, if_neg h, dif_neg h', dif_neg h, dif_neg h', mul_zero, mul_zero, add_zero, add_zero, mul_one]

/-- The angle of pair `d` at the position `n`. -/
def angle (n : BitVec 32) (d : Fin 8) : EReal :=
  FloatOps.sitofp (F := Ideal) .f32 n * FloatOps.hostPowf (F := Ideal) (φ := .f32) (Ideal.ofBits .f32 0x48F42400#32)
    (Ideal.div (-(0 + Ideal.ofBits .f32 0x40000000#32 * FloatOps.sitofp (F := Ideal) .f32 (BitVec.ofNat 32 d.val))) (Ideal.ofBits .f32 0x41800000#32))

/-- A row's projection, from the gain and the matrix as they are given. -/
def projK (g : FVec Ideal ⟨2, ![1, 4096]⟩ .f32) (w : FVec Ideal ⟨3, ![1, 4096, 20832]⟩ .f32) (x : Fin 4096 → EReal) : Fin 20832 → EReal :=
  lin (rms x (vec g)) (mat w)

/-- Value `j` of the keys of a row whose projection is `p`, at the position `n`. -/
def keyAt (p : Fin 20832 → EReal) (g : Fin 64 → EReal) (n : BitVec 32) (j : Fin 2048) : EReal :=
  hrope (hnorm (fun e => p ⟨8544 + (j.val / 64 * 64 + e.val), by omega⟩) g) (fun d => Ideal.cos (angle n d)) (fun d => Ideal.sin (angle n d))
    ⟨j.val % 64, Nat.mod_lt _ (by decide)⟩

/-! ## Finite values -/

/-- An extended real that is a real. -/
def IsFin (x : EReal) : Prop := ∃ r : ℝ, x = (r : EReal)

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.sum {n : ℕ} {f : Fin n → EReal} (h : ∀ k, IsFin (f k)) : IsFin (∑ k, f k) := by
  choose r hr using h
  refine ⟨∑ k, r k, ?_⟩
  simp only [hr]
  exact (map_sum (⟨⟨Real.toEReal, rfl⟩, EReal.coe_add⟩ : ℝ →+ EReal) r Finset.univ).symm

theorem IsFin.sub_self {x : EReal} (hx : IsFin x) : x - x = 0 := by
  obtain ⟨a, rfl⟩ := hx
  rw [← EReal.coe_sub, _root_.sub_self]; rfl

theorem bits_4096 : Ideal.ofBits .f32 0x45800000#32 = ((4096 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_inv64 : Ideal.ofBits .f32 0x3C800000#32 = (((64 : ℝ)⁻¹ : ℝ) : EReal) := by
  simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem div_64 (x : EReal) : Ideal.div x (Ideal.ofBits .f32 0x42800000#32) = x * Ideal.ofBits .f32 0x3C800000#32 := by
  rw [bits_64, bits_inv64, Ideal.div, if_neg (by norm_num), EReal.coe_inv]

theorem rms_fin {x g : Fin 4096 → EReal} (hx : ∀ k, IsFin (x k)) (hg : ∀ k, IsFin (g k)) (k : Fin 4096) : IsFin (rms x g k) := by
  refine ((hx k).mul ?_).mul (hg k)
  choose r hr using hx
  obtain ⟨e, he, hE⟩ := bits_eps
  have hs : ∑ l : Fin 4096, x l * x l = ((∑ l, r l * r l : ℝ) : EReal) := by
    simp only [hr, ← EReal.coe_mul]
    exact (map_sum (⟨⟨Real.toEReal, rfl⟩, EReal.coe_add⟩ : ℝ →+ EReal) (fun l => r l * r l) Finset.univ).symm
  have hp : 0 ≤ ∑ l, r l * r l := Finset.sum_nonneg fun l _ => mul_self_nonneg _
  rw [hs, hE, bits_4096, Ideal.div, if_neg (by norm_num), ← EReal.coe_inv, ← EReal.coe_mul, ← EReal.coe_add]
  have hq : 0 < (∑ l, r l * r l) * (4096 : ℝ)⁻¹ + e := by positivity
  refine ⟨(Real.sqrt ((∑ l, r l * r l) * (4096 : ℝ)⁻¹ + e))⁻¹, ?_⟩
  show (if _ then _ else _) = _
  rw [if_neg (not_lt.mpr hq.le), if_neg hq.ne']

/-- Twice 128 lanes against the matrix that picks the lane's own component, where the second 128 values are differences of a
    finite value with itself. -/
theorem head_sum (f : Fin 128 → EReal) (hf : ∀ k, IsFin (f k)) (l : Fin 128) :
    ∑ k : Fin 256, (if h : k.val < 128 then f ⟨k.val, h⟩ else f ⟨k.val - 128, by omega⟩ - f ⟨k.val - 128, by omega⟩)
        * (if k.val % 128 / 64 = l.val / 64 then (1 : EReal) else 0)
      = ∑ d : Fin 64, f (hd l d) := by
  have h2 : ∀ g : Fin 256 → EReal, ∑ k, g k = ∑ k : Fin 128, g ⟨k.val, by omega⟩ + ∑ k : Fin 128, g ⟨128 + k.val, by omega⟩ :=
    fun g => Fin.sum_univ_add (a := 128) (b := 128) g
  have h1 : ∀ g : Fin 128 → EReal, ∑ k, g k = ∑ k : Fin 64, g ⟨k.val, by omega⟩ + ∑ k : Fin 64, g ⟨64 + k.val, by omega⟩ :=
    fun g => Fin.sum_univ_add (a := 64) (b := 64) g
  rw [h2, h1]
  have hz : ∑ k : Fin 128, (if h : 128 + k.val < 128 then f ⟨128 + k.val, h⟩ else f ⟨128 + k.val - 128, by omega⟩ - f ⟨128 + k.val - 128, by omega⟩)
      * (if (128 + k.val) % 128 / 64 = l.val / 64 then (1 : EReal) else 0) = 0 := by
    refine Finset.sum_eq_zero fun k _ => ?_
    rw [dif_neg (by omega), (hf _).sub_self, zero_mul]
  rw [hz, add_zero]
  by_cases h : l.val < 64
  · refine (congrArg₂ (· + ·) (Finset.sum_congr rfl fun d _ => (?_ : _ = f (hd l d))) (Finset.sum_eq_zero fun d _ => ?_)).trans (add_zero _)
    · rw [dif_pos (by show d.val < 128; omega), if_pos (by show d.val % 128 / 64 = l.val / 64; omega), mul_one]
      exact congrArg f (Fin.ext (by show d.val = l.val / 64 * 64 + d.val; omega))
    · rw [if_neg (by show ¬ (64 + d.val) % 128 / 64 = l.val / 64; omega), mul_zero]
  · refine (congrArg₂ (· + ·) (Finset.sum_eq_zero fun d _ => ?_) (Finset.sum_congr rfl fun d _ => (?_ : _ = f (hd l d)))).trans (zero_add _)
    · rw [if_neg (by show ¬ d.val % 128 / 64 = l.val / 64; omega), mul_zero]
    · rw [dif_pos (by show 64 + d.val < 128; omega), if_pos (by show (64 + d.val) % 128 / 64 = l.val / 64; omega), mul_one]
      exact congrArg f (Fin.ext (by show 64 + d.val = l.val / 64 * 64 + d.val; omega))

end Cert.Spec
end
-- ==== Proof.KeysBody.lean ====
/- The body of `qk_norm_rope`: one tile of 128 lanes, read at an index. -/
module
public import proofs.«01_k».proof.Proof.Gen.KeysIdeal.Skeleton
public import Idealize.ShloMosaic.Lib.Pointwise
public import Idealize.ShloMosaic.Lib.KernelVsHost
public import proofs.«01_k».proof.Proof.KeysSpec
@[expose] public section
set_option maxRecDepth 16384
noncomputable section
namespace Cert.KeysIdeal.Val
open Cert.Spec
open Cert.KeysIdeal Cert.KeysIdeal.Gen Idealize.ShloMosaic

/-- The matrix that picks, of twice 128 lanes, those of the lane's own component. -/
theorem ones_at (k : Fin 256) (l : Fin 128) :
    k2_pay9 (F := Ideal) (ix2 k l) = if k.val % 128 / 64 = l.val / 64 then (1 : EReal) else 0 := by
  have hk : ∀ k : Fin 256, IntOp.cmpi .sge (Scalar.select (IntOp.cmpi .sge (BitVec.ofNat 32 k.val) 128#32)
      (IntOp.subi (BitVec.ofNat 32 k.val) 128#32) (BitVec.ofNat 32 k.val)) 64#32 = if k.val % 128 / 64 = 1 then 1#1 else 0#1 := by decide +kernel
  have hl : ∀ l : Fin 128, IntOp.cmpi .sge (BitVec.ofNat 32 l.val) 64#32 = if l.val / 64 = 1 then 1#1 else 0#1 := by decide +kernel
  pointwise [k2_pay9]
  rw [hk, hl]
  have : k.val % 128 / 64 = 0 ∨ k.val % 128 / 64 = 1 := by omega
  have : l.val / 64 = 0 ∨ l.val / 64 = 1 := by omega
  rcases ‹k.val % 128 / 64 = 0 ∨ k.val % 128 / 64 = 1› with h | h <;> rcases ‹l.val / 64 = 0 ∨ l.val / 64 = 1› with h' | h' <;>
    rw [h, h'] <;> simp [Scalar.select, IntOp.xori]

theorem norm_at (x : FVec Ideal S256x128 .f32) (g : FVec Ideal S1x128 .f32) (hx : ∀ i, IsFin (x i)) (p : Fin 256) (l : Fin 128) :
    k2_pay29 (k2_pay9 (F := Ideal)) x g (ix2 p l) = lnorm (fun k => x (ix2 p k)) (fun k => g (ix2 0 k)) l := by
  unfold lnorm
  rw [div_64, ← head_sum (fun k => x (ix2 p k) * x (ix2 p k)) (fun k => (hx _).mul (hx _))]
  pointwise [k2_pay29, ones_at]

theorem body_at (c s1 s2 x : FVec Ideal S256x128 .f32) (g : FVec Ideal S1x128 .f32) (hx : ∀ i, IsFin (x i)) (p : Fin 256) (l : Fin 128) :
    k2_pay13 c s1 s2 (k2_pay9 (F := Ideal)) x g (ix2 p l)
      = turn (lnorm (fun k => x (ix2 p k)) (fun k => g (ix2 0 k))) (fun k => c (ix2 p k)) (fun k => s1 (ix2 p k)) (fun k => s2 (ix2 p k)) l := by
  show k2_pay1 c s1 s2 (k2_pay29 (k2_pay9 (F := Ideal)) x g) (ix2 p l) = _
  pointwise [k2_pay1, turn]
  simp only [norm_at x g hx]

/-- A tile of 128 lanes of a block of 512, starting at the lane `off`: each lane normed and turned with the other lanes of its tile. -/
theorem piece_at (x1 : FVec Ideal S256x512 .f32) (x3 x4 x5 : FVec Ideal S256x128 .f32) (x7 : FVec Ideal S1x128 .f32) (hx : ∀ i, IsFin (x1 i))
    (off : ℕ) (hoff : off % 128 = 0) (hlt : off + 128 ≤ 512)
    (X1 X3 X4 X5 : FVec Ideal S256x128 .f32) (X7 : FVec Ideal S1x128 .f32)
    (e1 : ∀ (p : Fin 256) (k : Fin 128), X1 (ix2 p k) = x1 (ix2 p ⟨off + k.val, by omega⟩)) (e3 : ∀ (p : Fin 256) (k : Fin 128), X3 (ix2 p k) = x3 (ix2 p k))
    (e4 : ∀ (p : Fin 256) (k : Fin 128), X4 (ix2 p k) = x4 (ix2 p k)) (e5 : ∀ (p : Fin 256) (k : Fin 128), X5 (ix2 p k) = x5 (ix2 p k))
    (e7 : ∀ k : Fin 128, X7 (ix2 0 k) = x7 (ix2 0 k))
    (y : S256x512.Idx) (x : S256x128.Idx) (h0 : (y 0).val = (x 0).val) (h1 : (y 1).val = off + (x 1).val) :
    k2_pay13 X3 X4 X5 (k2_pay9 (F := Ideal)) X1 X7 x
      = turn (lnorm (fun l => x1 (ix2 (y 0) ⟨(y 1).val / 128 * 128 + l.val, by have : (y 1).val < 512 := (y 1).isLt; omega⟩)) (fun l => x7 (ix2 0 l)))
          (fun l => x3 (ix2 (y 0) l)) (fun l => x4 (ix2 (y 0) l)) (fun l => x5 (ix2 (y 0) l)) ⟨(y 1).val % 128, Nat.mod_lt _ (by decide)⟩ := by
  have key : ∀ (p : Fin 256) (q : Fin 128) (p' : Fin 256) (q' : Fin 512), p'.val = p.val → q'.val = off + q.val →
      k2_pay13 X3 X4 X5 (k2_pay9 (F := Ideal)) X1 X7 (ix2 p q)
      = turn (lnorm (fun l => x1 (ix2 p' ⟨q'.val / 128 * 128 + l.val, by omega⟩)) (fun l => x7 (ix2 0 l)))
          (fun l => x3 (ix2 p' l)) (fun l => x4 (ix2 p' l)) (fun l => x5 (ix2 p' l)) ⟨q'.val % 128, Nat.mod_lt _ (by decide)⟩ := by
    intro p q p' q' hp hq
    obtain rfl : p' = p := Fin.ext hp
    have hX : ∀ i, IsFin (X1 i) := fun i => by
      have h := e1 (i 0) (i 1)
      rw [ix2_eta] at h
      rw [h]; exact hx _
    rw [body_at X3 X4 X5 X1 X7 hX p' q]
    simp only [e1, e3, e4, e5, e7]
    have hl : (⟨q'.val % 128, Nat.mod_lt _ (by decide)⟩ : Fin 128) = q := Fin.ext (by show q'.val % 128 = q.val; omega)
    have hd : q'.val / 128 * 128 = off := by omega
    rw [hl]
    simp only [hd]
  exact (congrArg (k2_pay13 X3 X4 X5 (k2_pay9 (F := Ideal)) X1 X7) (ix2_eta x).symm).trans (key (x 0) (x 1) (y 0) (y 1) h0 h1)

theorem turn_congr {y y' c c' s1 s1' s2 s2' : Fin 128 → EReal} {l l' : Fin 128} (hy : ∀ k, y k = y' k) (hc : ∀ k, c k = c' k)
    (h1 : ∀ k, s1 k = s1' k) (h2 : ∀ k, s2 k = s2' k) (hl : l = l') : turn y c s1 s2 l = turn y' c' s1' s2' l' := by
  rw [funext hy, funext hc, funext h1, funext h2, hl]
theorem lnorm_congr {x x' g g' : Fin 128 → EReal} (hx : ∀ k, x k = x' k) (hg : ∀ k, g k = g' k) (l : Fin 128) : lnorm x g l = lnorm x' g' l := by
  rw [funext hx, funext hg]

end Cert.KeysIdeal.Val
end
-- ==== Proof.KeysR2.lean ====
/- What `qk_norm_rope` leaves of the keys and values of the prompt rows, as formulas in the arrays it reads. -/
module
public import proofs.«01_k».proof.Proof.Gen.KeysIdeal.Frame
public import Idealize.ShloMosaic.Lib.Pipeline.ValueKit
public import Idealize.ShloMosaic.Lib.Pointwise
public import proofs.«01_k».proof.Proof.KeysBody
@[expose] public section
set_option maxRecDepth 16384
noncomputable section
namespace Cert.KeysIdeal.Val
open Cert.Spec
open Cert.KeysIdeal Cert.KeysIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, win2_1.index t = ![t.val / 4, t.val % 4 + 4] ∧ win2_2.index t = ![t.val / 4, t.val % 4 + 8] ∧ win2_3.index t = ![t.val / 4, 0]
    ∧ win2_4.index t = ![t.val / 4, 0] ∧ win2_5.index t = ![t.val / 4, 0] ∧ win2_7.index t = ![0, 0] ∧ win2_9.index t = ![t.val / 4, t.val % 4] ∧ win2_11.index t = ![t.val / 4, t.val % 4] :=
  (by decide +kernel : ∀ t : Fin grid2.N, _)

/-- The values are a copy of their columns of the projection. -/
theorem val2_11 (c : Dev nD) : (dat2 V c).arrAt 11 cfg2.N
    = fun i : S8192x2048.Idx => (V c main_v7 : FVec Ideal S8448x14336 .f32) (ix2 ⟨(i 0).val, by have : (i 0).val < 8192 := (i 0).isLt; omega⟩ ⟨4096 + (i 1).val, by have : (i 1).val < 2048 := (i 1).isLt; omega⟩) := by
  refine (dat2 V c).arrAt_eq_of_covers 11 _ (by decide +kernel) fun t _ y => ?_
  blk_simp
  rw [after2_11]; frame_out
  pointwise [k2_pay4]
  blk_point [iblk2, idx2 t]

/-! What the body loads of its blocks, at an index. -/

theorem ld2_1 (x : FVec Ideal S256x512 .f32) (p : Fin 256) (k : Fin 128) : (View.ld x r2_1 : Vec Ideal S256x128 .f32) (ix2 p k) = x (ix2 p ⟨0 + k.val, by omega⟩) := by
  refine congrArg x (?_ : r2_1.idx (ix2 p k) = _)
  funext a; apply Fin.ext; fin_cases a <;> simp [Rect.idx_unit_val]
theorem ld2_3 (x : FVec Ideal S256x512 .f32) (p : Fin 256) (k : Fin 128) : (View.ld x r2_3 : Vec Ideal S256x128 .f32) (ix2 p k) = x (ix2 p ⟨128 + k.val, by omega⟩) := by
  refine congrArg x (?_ : r2_3.idx (ix2 p k) = _)
  funext a; apply Fin.ext; fin_cases a <;> simp [Rect.idx_unit_val]
theorem ld2_4 (x : FVec Ideal S256x512 .f32) (p : Fin 256) (k : Fin 128) : (View.ld x r2_4 : Vec Ideal S256x128 .f32) (ix2 p k) = x (ix2 p ⟨256 + k.val, by omega⟩) := by
  refine congrArg x (?_ : r2_4.idx (ix2 p k) = _)
  funext a; apply Fin.ext; fin_cases a <;> simp [Rect.idx_unit_val]
theorem ld2_5 (x : FVec Ideal S256x512 .f32) (p : Fin 256) (k : Fin 128) : (View.ld x r2_5 : Vec Ideal S256x128 .f32) (ix2 p k) = x (ix2 p ⟨384 + k.val, by omega⟩) := by
  refine congrArg x (?_ : r2_5.idx (ix2 p k) = _)
  funext a; apply Fin.ext; fin_cases a <;> simp [Rect.idx_unit_val]
theorem ld2_0 (x : FVec Ideal S256x128 .f32) (p : Fin 256) (k : Fin 128) : (View.ld x r2_0 : Vec Ideal S256x128 .f32) (ix2 p k) = x (ix2 p k) := by
  refine congrArg x (?_ : r2_0.idx (ix2 p k) = _)
  funext a; apply Fin.ext; fin_cases a <;> simp [Rect.idx_unit_val]
theorem ld2_2 (x : FVec Ideal S1x128 .f32) (p : Fin 1) (k : Fin 128) : (View.ld x r2_2 : Vec Ideal S1x128 .f32) (ix2 p k) = x (ix2 p k) := by
  refine congrArg x (?_ : r2_2.idx (ix2 p k) = _)
  funext a; apply Fin.ext; fin_cases a <;> simp [Rect.idx_unit_val]
theorem tab2_6 (x : FVec Ideal S256x128 .f32) (p : Fin 256) (k : Fin 128) : k2_pay6 (View.ld x r2_0 : Vec Ideal S256x128 .f32) (ix2 p k) = x (ix2 p k) := by
  refine Eq.trans ?_ (ld2_0 x p k)
  pointwise [k2_pay6]
theorem tab2_7 (x : FVec Ideal S256x128 .f32) (p : Fin 256) (k : Fin 128) : k2_pay7 (View.ld x r2_0 : Vec Ideal S256x128 .f32) (ix2 p k) = x (ix2 p k) := by
  refine Eq.trans ?_ (ld2_0 x p k)
  pointwise [k2_pay7]
theorem tab2_8 (x : FVec Ideal S256x128 .f32) (p : Fin 256) (k : Fin 128) : k2_pay8 (View.ld x r2_0 : Vec Ideal S256x128 .f32) (ix2 p k) = x (ix2 p k) := by
  refine Eq.trans ?_ (ld2_0 x p k)
  pointwise [k2_pay8]

set_option maxHeartbeats 1000000 in
/-- One output block of the keys: each lane normed and turned with the other lanes of its tile. -/
theorem out2_9_at (x0 x1 x2 : FVec Ideal S256x512 .f32) (x3 x4 x5 : FVec Ideal S256x128 .f32) (x6 x7 : FVec Ideal S1x128 .f32) (hx : ∀ i, IsFin (x1 i)) (y : S256x512.Idx) :
    out2_9 (F := Ideal) x0 x1 x2 x3 x4 x5 x6 x7 y
      = turn (lnorm (fun l => x1 (ix2 (y 0) ⟨(y 1).val / 128 * 128 + l.val, by have : (y 1).val < 512 := (y 1).isLt; omega⟩)) (fun l => x7 (ix2 0 l)))
          (fun l => x3 (ix2 (y 0) l)) (fun l => x4 (ix2 (y 0) l)) (fun l => x5 (ix2 (y 0) l)) ⟨(y 1).val % 128, Nat.mod_lt _ (by decide)⟩ := by
  unfold_out out2_9
  canon_tiles x h
  · exact piece_at x1 x3 x4 x5 x7 hx 384 (by decide) (by decide) _ _ _ _ _ (ld2_5 x1) (tab2_6 x3) (tab2_7 x4) (tab2_8 x5) (ld2_2 x7 0) y x h0 h1
  · exact piece_at x1 x3 x4 x5 x7 hx 256 (by decide) (by decide) _ _ _ _ _ (ld2_4 x1) (tab2_6 x3) (tab2_7 x4) (tab2_8 x5) (ld2_2 x7 0) y x h0 h1
  · exact piece_at x1 x3 x4 x5 x7 hx 128 (by decide) (by decide) _ _ _ _ _ (ld2_3 x1) (tab2_6 x3) (tab2_7 x4) (tab2_8 x5) (ld2_2 x7 0) y x h0 h1
  · exact piece_at x1 x3 x4 x5 x7 hx 0 (by decide) (by decide) _ _ _ _ _ (ld2_1 x1) (tab2_6 x3) (tab2_7 x4) (tab2_8 x5) (ld2_2 x7 0) y x h0 (h1.trans (Nat.zero_add _).symm)

/-- The keys, of a projection that is finite. -/
theorem val2_9 (c : Dev nD) (hf : ∀ i, IsFin ((V c main_v7 : FVec Ideal S8448x14336 .f32) i)) : (dat2 V c).arrAt 9 cfg2.N
    = fun i : S8192x2048.Idx => turn (lnorm (fun l => (V c main_v7 : FVec Ideal S8448x14336 .f32) (ix2 ⟨(i 0).val, by have : (i 0).val < 8192 := (i 0).isLt; omega⟩
            ⟨2048 + ((i 1).val / 128 * 128 + l.val), by have : (i 1).val < 2048 := (i 1).isLt; omega⟩)) (fun l => (V c main_v52 : FVec Ideal S1x128 .f32) (ix2 0 l)))
          (fun l => (V c main_v40 : FVec Ideal S8192x128 .f32) (ix2 (i 0) l)) (fun l => (V c main_v43 : FVec Ideal S8192x128 .f32) (ix2 (i 0) l))
          (fun l => (V c main_v46 : FVec Ideal S8192x128 .f32) (ix2 (i 0) l)) ⟨(i 1).val % 128, Nat.mod_lt _ (by decide)⟩ := by
  refine (dat2 V c).arrAt_eq_of_covers 9 _ (by decide +kernel) fun t _ y => ?_
  blk_simp
  rw [after2_9]
  refine (out2_9_at _ _ _ _ _ _ _ _ (fun i => hf _) y).trans (turn_congr (lnorm_congr (fun k => ?_) (fun k => ?_)) (fun k => ?_) (fun k => ?_) (fun k => ?_) ?_)
  iterate 5 (blk_point [iblk2, idx2 t])
  apply Fin.ext
  show (y 1).val % 128 = _ % 128
  blk_simp [idx2 t]
  omega

end Cert.KeysIdeal.Val
end
-- ==== Proof.KeysR3.lean ====
/- What `qk_norm_rope` leaves of the keys and values of the sample rows, as formulas in the arrays it reads. -/
module
public import proofs.«01_k».proof.Proof.Gen.KeysIdeal.Frame
public import Idealize.ShloMosaic.Lib.Pipeline.ValueKit
public import Idealize.ShloMosaic.Lib.Pointwise
public import proofs.«01_k».proof.Proof.KeysBody
@[expose] public section
set_option maxRecDepth 16384
noncomputable section
namespace Cert.KeysIdeal.Val
open Cert.Spec
open Cert.KeysIdeal Cert.KeysIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, win3_1.index t = ![32 + t.val / 4, t.val % 4 + 4] ∧ win3_2.index t = ![32 + t.val / 4, t.val % 4 + 8] ∧ win3_3.index t = ![t.val / 4, 0]
    ∧ win3_4.index t = ![t.val / 4, 0] ∧ win3_5.index t = ![t.val / 4, 0] ∧ win3_7.index t = ![0, 0] ∧ win3_9.index t = ![t.val / 4, t.val % 4] ∧ win3_11.index t = ![t.val / 4, t.val % 4] :=
  (by decide +kernel : ∀ t : Fin grid3.N, _)

/-- The values are a copy of their columns of the projection. -/
theorem val3_11 (c : Dev nD) : (dat3 V c).arrAt 11 cfg3.N
    = fun i : S256x2048.Idx => (V c main_v7 : FVec Ideal S8448x14336 .f32) (ix2 ⟨8192 + (i 0).val, by have : (i 0).val < 256 := (i 0).isLt; omega⟩ ⟨4096 + (i 1).val, by have : (i 1).val < 2048 := (i 1).isLt; omega⟩) := by
  refine (dat3 V c).arrAt_eq_of_covers 11 _ (by decide +kernel) fun t _ y => ?_
  blk_simp
  rw [after3_11]; frame_out
  pointwise [k3_pay4]
  blk_point [iblk3, idx3 t]

/-! What the body loads of its blocks, at an index. -/

theorem ld3_1 (x : FVec Ideal S256x512 .f32) (p : Fin 256) (k : Fin 128) : (View.ld x r3_1 : Vec Ideal S256x128 .f32) (ix2 p k) = x (ix2 p ⟨0 + k.val, by omega⟩) := by
  refine congrArg x (?_ : r3_1.idx (ix2 p k) = _)
  funext a; apply Fin.ext; fin_cases a <;> simp [Rect.idx_unit_val]
theorem ld3_3 (x : FVec Ideal S256x512 .f32) (p : Fin 256) (k : Fin 128) : (View.ld x r3_3 : Vec Ideal S256x128 .f32) (ix2 p k) = x (ix2 p ⟨128 + k.val, by omega⟩) := by
  refine congrArg x (?_ : r3_3.idx (ix2 p k) = _)
  funext a; apply Fin.ext; fin_cases a <;> simp [Rect.idx_unit_val]
theorem ld3_4 (x : FVec Ideal S256x512 .f32) (p : Fin 256) (k : Fin 128) : (View.ld x r3_4 : Vec Ideal S256x128 .f32) (ix2 p k) = x (ix2 p ⟨256 + k.val, by omega⟩) := by
  refine congrArg x (?_ : r3_4.idx (ix2 p k) = _)
  funext a; apply Fin.ext; fin_cases a <;> simp [Rect.idx_unit_val]
theorem ld3_5 (x : FVec Ideal S256x512 .f32) (p : Fin 256) (k : Fin 128) : (View.ld x r3_5 : Vec Ideal S256x128 .f32) (ix2 p k) = x (ix2 p ⟨384 + k.val, by omega⟩) := by
  refine congrArg x (?_ : r3_5.idx (ix2 p k) = _)
  funext a; apply Fin.ext; fin_cases a <;> simp [Rect.idx_unit_val]
theorem ld3_0 (x : FVec Ideal S256x128 .f32) (p : Fin 256) (k : Fin 128) : (View.ld x r3_0 : Vec Ideal S256x128 .f32) (ix2 p k) = x (ix2 p k) := by
  refine congrArg x (?_ : r3_0.idx (ix2 p k) = _)
  funext a; apply Fin.ext; fin_cases a <;> simp [Rect.idx_unit_val]
theorem ld3_2 (x : FVec Ideal S1x128 .f32) (p : Fin 1) (k : Fin 128) : (View.ld x r3_2 : Vec Ideal S1x128 .f32) (ix2 p k) = x (ix2 p k) := by
  refine congrArg x (?_ : r3_2.idx (ix2 p k) = _)
  funext a; apply Fin.ext; fin_cases a <;> simp [Rect.idx_unit_val]
theorem tab3_6 (x : FVec Ideal S256x128 .f32) (p : Fin 256) (k : Fin 128) : k3_pay6 (View.ld x r3_0 : Vec Ideal S256x128 .f32) (ix2 p k) = x (ix2 p k) := by
  refine Eq.trans ?_ (ld3_0 x p k)
  pointwise [k3_pay6]
theorem tab3_7 (x : FVec Ideal S256x128 .f32) (p : Fin 256) (k : Fin 128) : k3_pay7 (View.ld x r3_0 : Vec Ideal S256x128 .f32) (ix2 p k) = x (ix2 p k) := by
  refine Eq.trans ?_ (ld3_0 x p k)
  pointwise [k3_pay7]
theorem tab3_8 (x : FVec Ideal S256x128 .f32) (p : Fin 256) (k : Fin 128) : k3_pay8 (View.ld x r3_0 : Vec Ideal S256x128 .f32) (ix2 p k) = x (ix2 p k) := by
  refine Eq.trans ?_ (ld3_0 x p k)
  pointwise [k3_pay8]

set_option maxHeartbeats 1000000 in
/-- One output block of the keys: each lane normed and turned with the other lanes of its tile. -/
theorem out3_9_at (x0 x1 x2 : FVec Ideal S256x512 .f32) (x3 x4 x5 : FVec Ideal S256x128 .f32) (x6 x7 : FVec Ideal S1x128 .f32) (hx : ∀ i, IsFin (x1 i)) (y : S256x512.Idx) :
    out3_9 (F := Ideal) x0 x1 x2 x3 x4 x5 x6 x7 y
      = turn (lnorm (fun l => x1 (ix2 (y 0) ⟨(y 1).val / 128 * 128 + l.val, by have : (y 1).val < 512 := (y 1).isLt; omega⟩)) (fun l => x7 (ix2 0 l)))
          (fun l => x3 (ix2 (y 0) l)) (fun l => x4 (ix2 (y 0) l)) (fun l => x5 (ix2 (y 0) l)) ⟨(y 1).val % 128, Nat.mod_lt _ (by decide)⟩ := by
  unfold_out out3_9
  canon_tiles x h
  · exact piece_at x1 x3 x4 x5 x7 hx 384 (by decide) (by decide) _ _ _ _ _ (ld3_5 x1) (tab3_6 x3) (tab3_7 x4) (tab3_8 x5) (ld3_2 x7 0) y x h0 h1
  · exact piece_at x1 x3 x4 x5 x7 hx 256 (by decide) (by decide) _ _ _ _ _ (ld3_4 x1) (tab3_6 x3) (tab3_7 x4) (tab3_8 x5) (ld3_2 x7 0) y x h0 h1
  · exact piece_at x1 x3 x4 x5 x7 hx 128 (by decide) (by decide) _ _ _ _ _ (ld3_3 x1) (tab3_6 x3) (tab3_7 x4) (tab3_8 x5) (ld3_2 x7 0) y x h0 h1
  · exact piece_at x1 x3 x4 x5 x7 hx 0 (by decide) (by decide) _ _ _ _ _ (ld3_1 x1) (tab3_6 x3) (tab3_7 x4) (tab3_8 x5) (ld3_2 x7 0) y x h0 (h1.trans (Nat.zero_add _).symm)

/-- The keys, of a projection that is finite. -/
theorem val3_9 (c : Dev nD) (hf : ∀ i, IsFin ((V c main_v7 : FVec Ideal S8448x14336 .f32) i)) : (dat3 V c).arrAt 9 cfg3.N
    = fun i : S256x2048.Idx => turn (lnorm (fun l => (V c main_v7 : FVec Ideal S8448x14336 .f32) (ix2 ⟨8192 + (i 0).val, by have : (i 0).val < 256 := (i 0).isLt; omega⟩
            ⟨2048 + ((i 1).val / 128 * 128 + l.val), by have : (i 1).val < 2048 := (i 1).isLt; omega⟩)) (fun l => (V c main_v100 : FVec Ideal S1x128 .f32) (ix2 0 l)))
          (fun l => (V c main_v88 : FVec Ideal S256x128 .f32) (ix2 (i 0) l)) (fun l => (V c main_v91 : FVec Ideal S256x128 .f32) (ix2 (i 0) l))
          (fun l => (V c main_v94 : FVec Ideal S256x128 .f32) (ix2 (i 0) l)) ⟨(i 1).val % 128, Nat.mod_lt _ (by decide)⟩ := by
  refine (dat3 V c).arrAt_eq_of_covers 9 _ (by decide +kernel) fun t _ y => ?_
  blk_simp
  rw [after3_9]
  refine (out3_9_at _ _ _ _ _ _ _ _ (fun i => hf _) y).trans (turn_congr (lnorm_congr (fun k => ?_) (fun k => ?_)) (fun k => ?_) (fun k => ?_) (fun k => ?_) ?_)
  iterate 5 (blk_point [iblk3, idx3 t])
  apply Fin.ext
  show (y 1).val % 128 = _ % 128
  blk_simp [idx3 t]
  omega

end Cert.KeysIdeal.Val
end
-- ==== Proof.KeysTables.lean ====
/- The rotary tables the host makes for `qk_norm_rope`, each operation by name, read at a row and a lane. -/
module
public import proofs.«01_k».proof.Proof.Gen.KeysIdeal
public import Idealize.ShloMosaic.Lib.Pointwise
public import Idealize.ShloMosaic.Lib.IdealHost
public import proofs.«01_k».proof.Proof.KeysSpec
@[expose] public section
set_option maxRecDepth 16384
noncomputable section
namespace Cert.KeysIdeal.Val
open Cert.Spec Cert.KeysIdeal Cert.KeysIdeal.Gen Idealize.ShloMosaic

/-! The prompt rows. -/

def h_v8 : IVec S2048 32 := (iotaInDim S2048 32 0)
def h_v19 : FVec Ideal S2048 .f32 := (sitofp .f32) h_v8
def h_v20 : FVec Ideal S2048x1 .f32 := (broadcastInDim S2048x1 ![0] bcast_S2048_S2048x1_0) h_v19
def h_v22 : FVec Ideal S2048x8 .f32 := (broadcastInDim S2048x8 ![0, 1] bcast_S2048x1_S2048x8_0_1) h_v20
def h_cst_2 : FVec Ideal S_ .f32 := (constant S_ .f32 0x48F42400#32)
def h_v17 : FVec Ideal S8 .f32 := (broadcastInDim S8 ![] bcast_S_S8) h_cst_2
def h_cst_0 : FVec Ideal S_ .f32 := (constant S_ .f32 0x00000000#32)
def h_v12 : FVec Ideal S8 .f32 := (broadcastInDim S8 ![] bcast_S_S8) h_cst_0
def h_cst : FVec Ideal S_ .f32 := (constant S_ .f32 0x40000000#32)
def h_v10 : FVec Ideal S8 .f32 := (broadcastInDim S8 ![] bcast_S_S8) h_cst
def h_v9 : FVec Ideal S8 .f32 := (sitofp .f32 (iotaInDim S8 32 0))
def h_v11 : FVec Ideal S8 .f32 := (mulf) h_v10 h_v9
def h_v13 : FVec Ideal S8 .f32 := (addf) h_v12 h_v11
def h_v14 : FVec Ideal S8 .f32 := (Host.negf) h_v13
def h_cst_1 : FVec Ideal S_ .f32 := (constant S_ .f32 0x41800000#32)
def h_v15 : FVec Ideal S8 .f32 := (broadcastInDim S8 ![] bcast_S_S8) h_cst_1
def h_v16 : FVec Ideal S8 .f32 := (Host.divf) h_v14 h_v15
def h_v18 : FVec Ideal S8 .f32 := (Host.powf) h_v17 h_v16
def h_v21 : FVec Ideal S1x8 .f32 := (broadcastInDim S1x8 ![1] bcast_S8_S1x8_1) h_v18
def h_v23 : FVec Ideal S2048x8 .f32 := (broadcastInDim S2048x8 ![0, 1] bcast_S1x8_S2048x8_0_1) h_v21
def h_v24 : FVec Ideal S2048x8 .f32 := (mulf) h_v22 h_v23
def h_v25 : FVec Ideal S2048x8 .f32 := (Host.cos) h_v24
def h_cst_3 : FVec Ideal S_ .f32 := (constant S_ .f32 0x00000000#32)
def h_v27 : FVec Ideal S2048x48 .f32 := (broadcastInDim S2048x48 ![] bcast_S_S2048x48) h_cst_3
def h_cst_5 : FVec Ideal S_ .f32 := (constant S_ .f32 0x3F800000#32)
def h_v29 : FVec Ideal S2048x48 .f32 := (broadcastInDim S2048x48 ![] bcast_S_S2048x48) h_cst_5
def h_v30 : FVec Ideal S2048x48 .f32 := (addf) h_v27 h_v29
def h_v31 : FVec Ideal S2048x64 .f32 := concatenate S2048x64 1 [⟨S2048x8, h_v25⟩, ⟨S2048x8, h_v25⟩, ⟨S2048x48, h_v30⟩] concatenates_S2048x8_S2048x8_S2048x48_S2048x64_d1
def h_v35 : FVec Ideal S2048x128 .f32 := ((fun a b => concatenate S2048x128 1 [⟨S2048x64, a⟩, ⟨S2048x64, b⟩] concatenates_S2048x64_S2048x64_S2048x128_d1)) h_v31 h_v31
def h_v38 : FVec Ideal S1x2048x1x128 .f32 := shapeCast S1x2048x1x128 h_v35 shapeCasts_S2048x128_S1x2048x1x128
def h_v39 : FVec Ideal S4x2048x1x128 .f32 := (broadcastInDim S4x2048x1x128 ![0, 1, 2, 3] bcast_S1x2048x1x128_S4x2048x1x128_0_1_2_3) h_v38
def h_v40 : FVec Ideal S8192x128 .f32 := shapeCast S8192x128 h_v39 shapeCasts_S4x2048x1x128_S8192x128
def h_v26 : FVec Ideal S2048x8 .f32 := (Host.sin) h_v24
def h_v32 : FVec Ideal S2048x8 .f32 := (Host.negf) h_v26
def h_cst_4 : FVec Ideal S_ .f32 := (constant S_ .f32 0x00000000#32)
def h_v28 : FVec Ideal S2048x8 .f32 := (broadcastInDim S2048x8 ![] bcast_S_S2048x8) h_cst_4
def h_v33 : FVec Ideal S2048x64 .f32 := concatenate S2048x64 1 [⟨S2048x8, h_v32⟩, ⟨S2048x8, h_v28⟩, ⟨S2048x48, h_v27⟩] concatenates_S2048x8_S2048x8_S2048x48_S2048x64_d1
def h_v36 : FVec Ideal S2048x128 .f32 := ((fun a b => concatenate S2048x128 1 [⟨S2048x64, a⟩, ⟨S2048x64, b⟩] concatenates_S2048x64_S2048x64_S2048x128_d1)) h_v33 h_v33
def h_v41 : FVec Ideal S1x2048x1x128 .f32 := shapeCast S1x2048x1x128 h_v36 shapeCasts_S2048x128_S1x2048x1x128
def h_v42 : FVec Ideal S4x2048x1x128 .f32 := (broadcastInDim S4x2048x1x128 ![0, 1, 2, 3] bcast_S1x2048x1x128_S4x2048x1x128_0_1_2_3) h_v41
def h_v43 : FVec Ideal S8192x128 .f32 := shapeCast S8192x128 h_v42 shapeCasts_S4x2048x1x128_S8192x128
def h_v34 : FVec Ideal S2048x64 .f32 := concatenate S2048x64 1 [⟨S2048x8, h_v28⟩, ⟨S2048x8, h_v26⟩, ⟨S2048x48, h_v27⟩] concatenates_S2048x8_S2048x8_S2048x48_S2048x64_d1
def h_v37 : FVec Ideal S2048x128 .f32 := ((fun a b => concatenate S2048x128 1 [⟨S2048x64, a⟩, ⟨S2048x64, b⟩] concatenates_S2048x64_S2048x64_S2048x128_d1)) h_v34 h_v34
def h_v44 : FVec Ideal S1x2048x1x128 .f32 := shapeCast S1x2048x1x128 h_v37 shapeCasts_S2048x128_S1x2048x1x128
def h_v45 : FVec Ideal S4x2048x1x128 .f32 := (broadcastInDim S4x2048x1x128 ![0, 1, 2, 3] bcast_S1x2048x1x128_S4x2048x1x128_0_1_2_3) h_v44
def h_v46 : FVec Ideal S8192x128 .f32 := shapeCast S8192x128 h_v45 shapeCasts_S4x2048x1x128_S8192x128

theorem h_v24_at (t : Fin 2048) (d : Fin 8) : h_v24 (ix2 t d) = angle (BitVec.ofNat 32 t.val) d := by
  pointwise [h_v24, h_v22, h_v20, h_v19, h_v8, h_v23, h_v21, h_v18, h_v17, h_cst_2, h_v16, h_v14, h_v13, h_v12, h_cst_0, h_v11, h_v10, h_cst, h_v9, h_v15, h_cst_1, angle]

theorem h_v31_at (t : Fin 2048) (d : Fin 64) : h_v31 (ix2 t d) = tabC (fun d => Ideal.cos (angle (BitVec.ofNat 32 t.val) d)) d := by
  pointwise [h_v31, h_v25, h_v30, h_v27, h_cst_3, h_v29, h_cst_5, h_v24_at, tabC]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v33_at (t : Fin 2048) (d : Fin 64) : h_v33 (ix2 t d) = tabA (fun d => Ideal.sin (angle (BitVec.ofNat 32 t.val) d)) d := by
  pointwise [h_v33, h_v32, h_v26, h_v28, h_cst_4, h_v27, h_cst_3, h_v24_at, tabA]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v34_at (t : Fin 2048) (d : Fin 64) : h_v34 (ix2 t d) = tabB (fun d => Ideal.sin (angle (BitVec.ofNat 32 t.val) d)) d := by
  pointwise [h_v34, h_v28, h_cst_4, h_v26, h_v27, h_cst_3, h_v24_at, tabB]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v40_at (i : Fin 8192) (l : Fin 128) : h_v40 (ix2 i l) = tabC (fun d => Ideal.cos (angle (BitVec.ofNat 32 (i.val % 2048)) d)) (lane l) := by
  pointwise [h_v40, h_v39, h_v38, h_v35, h_v31_at, lane]
  split_ifs <;> exact congrArg _ (Fin.ext (by show _ = l.val % 64; simp only []; omega))

theorem h_v43_at (i : Fin 8192) (l : Fin 128) : h_v43 (ix2 i l) = tabA (fun d => Ideal.sin (angle (BitVec.ofNat 32 (i.val % 2048)) d)) (lane l) := by
  pointwise [h_v43, h_v42, h_v41, h_v36, h_v33_at, lane]
  split_ifs <;> exact congrArg _ (Fin.ext (by show _ = l.val % 64; simp only []; omega))

theorem h_v46_at (i : Fin 8192) (l : Fin 128) : h_v46 (ix2 i l) = tabB (fun d => Ideal.sin (angle (BitVec.ofNat 32 (i.val % 2048)) d)) (lane l) := by
  pointwise [h_v46, h_v45, h_v44, h_v37, h_v34_at, lane]
  split_ifs <;> exact congrArg _ (Fin.ext (by show _ = l.val % 64; simp only []; omega))

/-! The sample rows. -/

def h_c : IVec S_ 32 := (constantI S_ 32 4096#32)
def h_v55 : IVec S32 32 := (broadcastInDim S32 ![] bcast_S_S32) h_c
def h_v54 : IVec S32 32 := (iotaInDim S32 32 0)
def h_v56 : IVec S32 32 := (addi) h_v55 h_v54
def h_v67 : FVec Ideal S32 .f32 := (sitofp .f32) h_v56
def h_v68 : FVec Ideal S32x1 .f32 := (broadcastInDim S32x1 ![0] bcast_S32_S32x1_0) h_v67
def h_v70 : FVec Ideal S32x8 .f32 := (broadcastInDim S32x8 ![0, 1] bcast_S32x1_S32x8_0_1) h_v68
def h_cst_9 : FVec Ideal S_ .f32 := (constant S_ .f32 0x48F42400#32)
def h_v65 : FVec Ideal S8 .f32 := (broadcastInDim S8 ![] bcast_S_S8) h_cst_9
def h_cst_7 : FVec Ideal S_ .f32 := (constant S_ .f32 0x00000000#32)
def h_v60 : FVec Ideal S8 .f32 := (broadcastInDim S8 ![] bcast_S_S8) h_cst_7
def h_cst_6 : FVec Ideal S_ .f32 := (constant S_ .f32 0x40000000#32)
def h_v58 : FVec Ideal S8 .f32 := (broadcastInDim S8 ![] bcast_S_S8) h_cst_6
def h_v57 : FVec Ideal S8 .f32 := (sitofp .f32 (iotaInDim S8 32 0))
def h_v59 : FVec Ideal S8 .f32 := (mulf) h_v58 h_v57
def h_v61 : FVec Ideal S8 .f32 := (addf) h_v60 h_v59
def h_v62 : FVec Ideal S8 .f32 := (Host.negf) h_v61
def h_cst_8 : FVec Ideal S_ .f32 := (constant S_ .f32 0x41800000#32)
def h_v63 : FVec Ideal S8 .f32 := (broadcastInDim S8 ![] bcast_S_S8) h_cst_8
def h_v64 : FVec Ideal S8 .f32 := (Host.divf) h_v62 h_v63
def h_v66 : FVec Ideal S8 .f32 := (Host.powf) h_v65 h_v64
def h_v69 : FVec Ideal S1x8 .f32 := (broadcastInDim S1x8 ![1] bcast_S8_S1x8_1) h_v66
def h_v71 : FVec Ideal S32x8 .f32 := (broadcastInDim S32x8 ![0, 1] bcast_S1x8_S32x8_0_1) h_v69
def h_v72 : FVec Ideal S32x8 .f32 := (mulf) h_v70 h_v71
def h_v73 : FVec Ideal S32x8 .f32 := (Host.cos) h_v72
def h_cst_10 : FVec Ideal S_ .f32 := (constant S_ .f32 0x00000000#32)
def h_v75 : FVec Ideal S32x48 .f32 := (broadcastInDim S32x48 ![] bcast_S_S32x48) h_cst_10
def h_cst_12 : FVec Ideal S_ .f32 := (constant S_ .f32 0x3F800000#32)
def h_v77 : FVec Ideal S32x48 .f32 := (broadcastInDim S32x48 ![] bcast_S_S32x48) h_cst_12
def h_v78 : FVec Ideal S32x48 .f32 := (addf) h_v75 h_v77
def h_v79 : FVec Ideal S32x64 .f32 := concatenate S32x64 1 [⟨S32x8, h_v73⟩, ⟨S32x8, h_v73⟩, ⟨S32x48, h_v78⟩] concatenates_S32x8_S32x8_S32x48_S32x64_d1
def h_v83 : FVec Ideal S32x128 .f32 := ((fun a b => concatenate S32x128 1 [⟨S32x64, a⟩, ⟨S32x64, b⟩] concatenates_S32x64_S32x64_S32x128_d1)) h_v79 h_v79
def h_v86 : FVec Ideal S1x32x1x128 .f32 := shapeCast S1x32x1x128 h_v83 shapeCasts_S32x128_S1x32x1x128
def h_v87 : FVec Ideal S8x32x1x128 .f32 := (broadcastInDim S8x32x1x128 ![0, 1, 2, 3] bcast_S1x32x1x128_S8x32x1x128_0_1_2_3) h_v86
def h_v88 : FVec Ideal S256x128 .f32 := shapeCast S256x128 h_v87 shapeCasts_S8x32x1x128_S256x128
def h_v74 : FVec Ideal S32x8 .f32 := (Host.sin) h_v72
def h_v80 : FVec Ideal S32x8 .f32 := (Host.negf) h_v74
def h_cst_11 : FVec Ideal S_ .f32 := (constant S_ .f32 0x00000000#32)
def h_v76 : FVec Ideal S32x8 .f32 := (broadcastInDim S32x8 ![] bcast_S_S32x8) h_cst_11
def h_v81 : FVec Ideal S32x64 .f32 := concatenate S32x64 1 [⟨S32x8, h_v80⟩, ⟨S32x8, h_v76⟩, ⟨S32x48, h_v75⟩] concatenates_S32x8_S32x8_S32x48_S32x64_d1
def h_v84 : FVec Ideal S32x128 .f32 := ((fun a b => concatenate S32x128 1 [⟨S32x64, a⟩, ⟨S32x64, b⟩] concatenates_S32x64_S32x64_S32x128_d1)) h_v81 h_v81
def h_v89 : FVec Ideal S1x32x1x128 .f32 := shapeCast S1x32x1x128 h_v84 shapeCasts_S32x128_S1x32x1x128
def h_v90 : FVec Ideal S8x32x1x128 .f32 := (broadcastInDim S8x32x1x128 ![0, 1, 2, 3] bcast_S1x32x1x128_S8x32x1x128_0_1_2_3) h_v89
def h_v91 : FVec Ideal S256x128 .f32 := shapeCast S256x128 h_v90 shapeCasts_S8x32x1x128_S256x128
def h_v82 : FVec Ideal S32x64 .f32 := concatenate S32x64 1 [⟨S32x8, h_v76⟩, ⟨S32x8, h_v74⟩, ⟨S32x48, h_v75⟩] concatenates_S32x8_S32x8_S32x48_S32x64_d1
def h_v85 : FVec Ideal S32x128 .f32 := ((fun a b => concatenate S32x128 1 [⟨S32x64, a⟩, ⟨S32x64, b⟩] concatenates_S32x64_S32x64_S32x128_d1)) h_v82 h_v82
def h_v92 : FVec Ideal S1x32x1x128 .f32 := shapeCast S1x32x1x128 h_v85 shapeCasts_S32x128_S1x32x1x128
def h_v93 : FVec Ideal S8x32x1x128 .f32 := (broadcastInDim S8x32x1x128 ![0, 1, 2, 3] bcast_S1x32x1x128_S8x32x1x128_0_1_2_3) h_v92
def h_v94 : FVec Ideal S256x128 .f32 := shapeCast S256x128 h_v93 shapeCasts_S8x32x1x128_S256x128

theorem h_v72_at (t : Fin 32) (d : Fin 8) : h_v72 (ix2 t d) = angle (IntOp.addi 4096#32 (BitVec.ofNat 32 t.val)) d := by
  pointwise [h_v72, h_v70, h_v68, h_v67, h_v56, h_v55, h_c, h_v54, h_v71, h_v69, h_v66, h_v65, h_cst_9, h_v64, h_v62, h_v61, h_v60, h_cst_7, h_v59, h_v58, h_cst_6, h_v57, h_v63, h_cst_8, angle]

theorem h_v79_at (t : Fin 32) (d : Fin 64) : h_v79 (ix2 t d) = tabC (fun d => Ideal.cos (angle (IntOp.addi 4096#32 (BitVec.ofNat 32 t.val)) d)) d := by
  pointwise [h_v79, h_v73, h_v78, h_v75, h_cst_10, h_v77, h_cst_12, h_v72_at, tabC]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v81_at (t : Fin 32) (d : Fin 64) : h_v81 (ix2 t d) = tabA (fun d => Ideal.sin (angle (IntOp.addi 4096#32 (BitVec.ofNat 32 t.val)) d)) d := by
  pointwise [h_v81, h_v80, h_v74, h_v76, h_cst_11, h_v75, h_cst_10, h_v72_at, tabA]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v82_at (t : Fin 32) (d : Fin 64) : h_v82 (ix2 t d) = tabB (fun d => Ideal.sin (angle (IntOp.addi 4096#32 (BitVec.ofNat 32 t.val)) d)) d := by
  pointwise [h_v82, h_v76, h_cst_11, h_v74, h_v75, h_cst_10, h_v72_at, tabB]
  by_cases a : d.val < 8
  · simp only [dif_pos a, if_pos a]
  · by_cases b : d.val < 16
    · have b' : d.val - 8 < 8 := by omega
      simp only [dif_neg a, if_neg a, dif_pos b, dif_pos b']
    · have b' : ¬ d.val - 8 < 8 := by omega
      simp only [dif_neg a, if_neg a, dif_neg b, dif_neg b']

theorem h_v88_at (i : Fin 256) (l : Fin 128) : h_v88 (ix2 i l) = tabC (fun d => Ideal.cos (angle (IntOp.addi 4096#32 (BitVec.ofNat 32 (i.val % 32))) d)) (lane l) := by
  pointwise [h_v88, h_v87, h_v86, h_v83, h_v79_at, lane]
  split_ifs <;> exact congrArg _ (Fin.ext (by show _ = l.val % 64; simp only []; omega))

theorem h_v91_at (i : Fin 256) (l : Fin 128) : h_v91 (ix2 i l) = tabA (fun d => Ideal.sin (angle (IntOp.addi 4096#32 (BitVec.ofNat 32 (i.val % 32))) d)) (lane l) := by
  pointwise [h_v91, h_v90, h_v89, h_v84, h_v81_at, lane]
  split_ifs <;> exact congrArg _ (Fin.ext (by show _ = l.val % 64; simp only []; omega))

theorem h_v94_at (i : Fin 256) (l : Fin 128) : h_v94 (ix2 i l) = tabB (fun d => Ideal.sin (angle (IntOp.addi 4096#32 (BitVec.ofNat 32 (i.val % 32))) d)) (lane l) := by
  pointwise [h_v94, h_v93, h_v92, h_v85, h_v82_at, lane]
  split_ifs <;> exact congrArg _ (Fin.ext (by show _ = l.val % 64; simp only []; omega))

end Cert.KeysIdeal.Val
end
-- ==== Proof.KeysChain.lean ====
/- What the keys' kernel leaves in each array it makes, stage after stage, as rows of its arguments. -/
module
public import proofs.«01_k».proof.Proof.KeysR0
public import proofs.«01_k».proof.Proof.KeysR2
public import proofs.«01_k».proof.Proof.KeysR3
public import proofs.«01_k».proof.Proof.KeysTables
public import Idealize.ShloMosaic.Lib.Claim
@[expose] public section
set_option maxRecDepth 16384
noncomputable section
namespace Cert.KeysIdeal.Val
open Cert.Spec Cert.KeysIdeal Cert.KeysIdeal.Gen Idealize.ShloMosaic Idealize.ShloMosaic.TcCoe Idealize.SL.Sem

variable (m : (ℓ : Loc nD τ sig) → Buf (Elt Ideal) ℓ) (ρ : Dev nD → PrngReg)

/-! The arguments. -/

def aP (c : Dev nD) : FVec Ideal S4x2048x4096 .f32 := m ((c : Thread nD τ).loc main_arg0)
def aS (c : Dev nD) : FVec Ideal S8x32x4096 .f32 := m ((c : Thread nD τ).loc main_arg1)
def aG (c : Dev nD) : FVec Ideal S1x4096 .f32 := m ((c : Thread nD τ).loc main_arg2)
def aW (c : Dev nD) : FVec Ideal S1x4096x20832 .f32 := m ((c : Thread nD τ).loc main_arg3)
def aK (c : Dev nD) : FVec Ideal S1x64 .f32 := m ((c : Thread nD τ).loc main_arg5)

/-- The arguments of the projection are finite. -/
def FinArgs : Prop := ∀ c : Dev nD, (∀ i, IsFin (aP m c i)) ∧ (∀ i, IsFin (aS m c i)) ∧ (∀ i, IsFin (aG m c i)) ∧ (∀ i, IsFin (aW m c i))

/-- Row `i` of the inputs. -/
def xr (c : Dev nD) (i : Fin 8448) : Fin 4096 → EReal := rowsOf (n := 4096) (φ := .f32) (aP m c) (aS m c) i
/-- Row `i` of the projection. -/
def pr (c : Dev nD) (i : Fin 8448) : Fin 20832 → EReal := projK (aG m c) (aW m c) (xr m c i)

theorem xr_fin (h : FinArgs m) (c : Dev nD) (i : Fin 8448) (k : Fin 4096) : IsFin (xr m c i k) := by
  unfold xr rowsOf
  split
  · exact (h c).1 _
  · exact (h c).2.1 _
theorem pr_fin (h : FinArgs m) (c : Dev nD) (i : Fin 8448) (j : Fin 20832) : IsFin (pr m c i j) :=
  IsFin.sum fun k => (rms_fin (fun k => xr_fin m h c i k) (fun k => (h c).2.2.1 _) k).mul ((h c).2.2.2 _)

/-! The host's layouts, over variable arrays. -/

theorem vec_g (g : FVec Ideal S1x4096 .f32) : arr (shapeCast S1x4096 (shapeCast S4096 g shapeCasts_S1x4096_S4096) shapeCasts_S4096_S1x4096) 0 = vec g := by
  funext k; pointwise [arr, vec]
theorem wt_at (w : FVec Ideal S1x4096x20832 .f32) (r : Fin 20832) (k : Fin 4096) :
    transpose S20832x4096 [1, 0] (shapeCast S4096x20832 w shapeCasts_S1x4096x20832_S4096x20832) transposes_S4096x20832_S20832x4096_1_0 (ix2 r k) = mat w k r := by
  pointwise [mat]
theorem cast_p (x : FVec Ideal S4x2048x4096 .f32) (i : Fin 8192) (k : Fin 4096) : shapeCast S8192x4096 x shapeCasts_S4x2048x4096_S8192x4096 (ix2 i k)
    = x (ix3 ⟨i.val / 2048, by omega⟩ ⟨i.val % 2048, Nat.mod_lt _ (by decide)⟩ k) := by
  pointwise
theorem cast_s (x : FVec Ideal S8x32x4096 .f32) (i : Fin 256) (k : Fin 4096) : shapeCast S256x4096 x shapeCasts_S8x32x4096_S256x4096 (ix2 i k)
    = x (ix3 ⟨i.val / 32, by omega⟩ ⟨i.val % 32, Nat.mod_lt _ (by decide)⟩ k) := by
  pointwise

theorem cat_rows (xp : FVec Ideal S4x2048x4096 .f32) (xs : FVec Ideal S8x32x4096 .f32)  (i : Fin 8448) (k : Fin 4096) :
    cat (shapeCast S8192x4096 xp shapeCasts_S4x2048x4096_S8192x4096) (shapeCast S256x4096 xs shapeCasts_S8x32x4096_S256x4096) (ix2 i k)
    = rowsOf (n := 4096) (φ := .f32) xp xs i k := by
  unfold cat rowsOf
  by_cases h : i.val < 8192
  · rw [dif_pos h, dif_pos (show (ix2 i k (0 : Fin 2)).val < 8192 from h)]
    exact cast_p xp ⟨i.val, h⟩ k
  · rw [dif_neg h, dif_neg (show ¬ (ix2 i k (0 : Fin 2)).val < 8192 from h)]
    exact cast_s xs ⟨i.val - 8192, by omega⟩ k

theorem gain_at (g : FVec Ideal S1x64 .f32) (l : Fin 128) :
    shapeCast S1x128 (concatenate S128 0 [⟨S64, shapeCast S64 g shapeCasts_S1x64_S64⟩, ⟨S64, shapeCast S64 g shapeCasts_S1x64_S64⟩] concatenates_S64_S64_S128_d0) shapeCasts_S128_S1x128 (ix2 0 l) = vec g (lane l) := by
  pointwise [vec, lane]
  split_ifs <;> exact congrArg (vec g) (Fin.ext (by show _ = l.val % 64; simp only []; omega))

/-- A tile's lanes, normed and turned, are one value of the keys. -/
theorem key_eq (P : Fin 20832 → EReal) (g : Fin 64 → EReal) (n : BitVec 32) (j : Fin 2048) :
    turn (lnorm (fun l => P ⟨6496 + (2048 + (j.val / 128 * 128 + l.val)), by omega⟩) (fun l => g (lane l)))
      (fun l => tabC (fun d => Ideal.cos (angle n d)) (lane l)) (fun l => tabA (fun d => Ideal.sin (angle n d)) (lane l))
      (fun l => tabB (fun d => Ideal.sin (angle n d)) (lane l)) ⟨j.val % 128, Nat.mod_lt _ (by decide)⟩ = keyAt P g n j := by
  rw [turn_eq]
  simp only [lnorm_hd, lane_hd]
  unfold keyAt
  have hj : lane ⟨j.val % 128, Nat.mod_lt _ (by decide)⟩ = ⟨j.val % 64, Nat.mod_lt _ (by decide)⟩ := Fin.ext (by show j.val % 128 % 64 = j.val % 64; omega)
  have hP : ∀ e : Fin 64, (⟨6496 + (2048 + (j.val / 128 * 128 + (hd ⟨j.val % 128, Nat.mod_lt _ (by decide)⟩ e).val)), by omega⟩ : Fin 20832) = ⟨8544 + (j.val / 64 * 64 + e.val), by omega⟩ :=
    fun e => Fin.ext (by show 6496 + (2048 + (j.val / 128 * 128 + (j.val % 128 / 64 * 64 + e.val))) = 8544 + (j.val / 64 * 64 + e.val); omega)
  rw [hj]
  simp only [hP]

/-! What the host leaves before each region. -/

theorem V1_v0 (c : Dev nD) : V1 m ρ c main_v0 = shapeCast S8192x4096 (m ((c : Thread nD τ).loc main_arg0) : FVec Ideal S4x2048x4096 .f32) shapeCasts_S4x2048x4096_S8192x4096 := by
  show StableHlo.after hostOps0 (W0 m ρ c) (Proc.devRef .tc main_v0) = _
  after_results_simp <;> rfl
theorem V1_v1 (c : Dev nD) : V1 m ρ c main_v1 = shapeCast S256x4096 (m ((c : Thread nD τ).loc main_arg1) : FVec Ideal S8x32x4096 .f32) shapeCasts_S8x32x4096_S256x4096 := by
  show StableHlo.after hostOps0 (W0 m ρ c) (Proc.devRef .tc main_v1) = _
  after_results_simp <;> rfl
theorem V1_v3 (c : Dev nD) : V1 m ρ c main_v3 = shapeCast S1x4096 (shapeCast S4096 (m ((c : Thread nD τ).loc main_arg2) : FVec Ideal S1x4096 .f32) shapeCasts_S1x4096_S4096) shapeCasts_S4096_S1x4096 := by
  show StableHlo.after hostOps0 (W0 m ρ c) (Proc.devRef .tc main_v3) = _
  after_results_simp <;> rfl
theorem V3_v6 (c : Dev nD) : V3 m ρ c main_v6 = transpose S20832x4096 [1, 0] (shapeCast S4096x20832 (m ((c : Thread nD τ).loc main_arg3) : FVec Ideal S1x4096x20832 .f32) shapeCasts_S1x4096x20832_S4096x20832) transposes_S4096x20832_S20832x4096_1_0 := by
  show StableHlo.after hostOps1 (W2 m ρ c) (Proc.devRef .tc main_v6) = _
  rw [← W2_args m ρ c main_arg3 (by decide)]
  after_results_simp <;> rfl
theorem V5_v40 (c : Dev nD) : V5 m ρ c main_v40 = h_v40 := by
  show StableHlo.after hostOps2 (W4 m ρ c) (Proc.devRef .tc main_v40) = _
  after_results_simp <;> rfl
theorem V5_v43 (c : Dev nD) : V5 m ρ c main_v43 = h_v43 := by
  show StableHlo.after hostOps2 (W4 m ρ c) (Proc.devRef .tc main_v43) = _
  after_results_simp <;> rfl
theorem V5_v46 (c : Dev nD) : V5 m ρ c main_v46 = h_v46 := by
  show StableHlo.after hostOps2 (W4 m ρ c) (Proc.devRef .tc main_v46) = _
  after_results_simp <;> rfl
theorem V5_v52 (c : Dev nD) : V5 m ρ c main_v52 = shapeCast S1x128 (concatenate S128 0 [⟨S64, shapeCast S64 (m ((c : Thread nD τ).loc main_arg5) : FVec Ideal S1x64 .f32) shapeCasts_S1x64_S64⟩, ⟨S64, shapeCast S64 (m ((c : Thread nD τ).loc main_arg5) : FVec Ideal S1x64 .f32) shapeCasts_S1x64_S64⟩] concatenates_S64_S64_S128_d0) shapeCasts_S128_S1x128 := by
  show StableHlo.after hostOps2 (W4 m ρ c) (Proc.devRef .tc main_v52) = _
  rw [← W4_args m ρ c main_arg5 (by decide)]
  after_results_simp <;> rfl
theorem V7_v88 (c : Dev nD) : V7 m ρ c main_v88 = h_v88 := by
  show StableHlo.after hostOps3 (W6 m ρ c) (Proc.devRef .tc main_v88) = _
  after_results_simp <;> rfl
theorem V7_v91 (c : Dev nD) : V7 m ρ c main_v91 = h_v91 := by
  show StableHlo.after hostOps3 (W6 m ρ c) (Proc.devRef .tc main_v91) = _
  after_results_simp <;> rfl
theorem V7_v94 (c : Dev nD) : V7 m ρ c main_v94 = h_v94 := by
  show StableHlo.after hostOps3 (W6 m ρ c) (Proc.devRef .tc main_v94) = _
  after_results_simp <;> rfl
theorem V7_v100 (c : Dev nD) : V7 m ρ c main_v100 = shapeCast S1x128 (concatenate S128 0 [⟨S64, shapeCast S64 (m ((c : Thread nD τ).loc main_arg5) : FVec Ideal S1x64 .f32) shapeCasts_S1x64_S64⟩, ⟨S64, shapeCast S64 (m ((c : Thread nD τ).loc main_arg5) : FVec Ideal S1x64 .f32) shapeCasts_S1x64_S64⟩] concatenates_S64_S64_S128_d0) shapeCasts_S128_S1x128 := by
  show StableHlo.after hostOps3 (W6 m ρ c) (Proc.devRef .tc main_v100) = _
  rw [← W6_args m ρ c main_arg5 (by decide)]
  after_results_simp <;> rfl

/-! The stages. -/

/-- The normed rows. -/
theorem B1 (c : Dev nD) : V3 m ρ c main_v4_1 = fun i : S8448x4096.Idx => rms (xr m c (i 0)) (vec (aG m c)) (i 1) := by
  refine (W3_of m ρ c main_v4_1 (by decide)).trans ((W2_arr m ρ c 4).trans ((val0_4 (V1 m ρ) c).trans ?_))
  funext i
  rw [V1_v0, V1_v1, V1_v3]
  exact congrFun (congrArg₂ rms (funext fun k => cat_rows _ _ _ k) (vec_g _)) (i 1)

theorem W_wt (c : Dev nD) (r : Fin 20832) (k : Fin 4096) : (V3 m ρ c main_v6 : FVec Ideal S20832x4096 .f32) (ix2 r k) = mat (aW m c) k r := by
  rw [V3_v6]
  exact wt_at _ r k

/-- The slice of the projection the keys and values lie in. -/
theorem W_a (c : Dev nD) : W4 m ρ c main_v7 = fun i : S8448x14336.Idx => pr m c (i 0) ⟨6496 + (i 1).val, by have : (i 1).val < 14336 := (i 1).isLt; omega⟩ := by
  refine (W4_arr m ρ c 2).trans ((val1 (V3 m ρ) c).trans ?_)
  funext i
  unfold dotT
  exact Finset.sum_congr rfl fun k _ => congrArg₂ (fun a b : EReal => a * b) (congrFun (B1 m ρ c) (ix2 (i 0) k)) (W_wt m ρ c _ k)
theorem P5 (c : Dev nD) : V5 m ρ c main_v7 = fun i : S8448x14336.Idx => pr m c (i 0) ⟨6496 + (i 1).val, by have : (i 1).val < 14336 := (i 1).isLt; omega⟩ :=
  (W5_of m ρ c main_v7 (by decide)).trans (W_a m ρ c)
theorem P7 (c : Dev nD) : V7 m ρ c main_v7 = fun i : S8448x14336.Idx => pr m c (i 0) ⟨6496 + (i 1).val, by have : (i 1).val < 14336 := (i 1).isLt; omega⟩ :=
  (W7_of m ρ c main_v7 (by decide)).trans ((W6_of m ρ c main_v7 (by decide)).trans (P5 m ρ c))

theorem pr_prompt (c : Dev nD) (r : Fin 8192) : pr m c ⟨r.val, by omega⟩ = projK (aG m c) (aW m c) (fun k => aP m c (ix3 ⟨r.val / 2048, by omega⟩ ⟨r.val % 2048, Nat.mod_lt _ (by decide)⟩ k)) :=
  congrArg (projK (aG m c) (aW m c)) (rowsOf_prompt (aP m c) (aS m c) ⟨r.val, by omega⟩ r.isLt)
theorem pr_sample (c : Dev nD) (r : Fin 256) : pr m c ⟨8192 + r.val, by omega⟩ = projK (aG m c) (aW m c) (fun k => aS m c (ix3 ⟨r.val / 32, by omega⟩ ⟨r.val % 32, Nat.mod_lt _ (by decide)⟩ k)) := by
  refine congrArg (projK (aG m c) (aW m c)) ((rowsOf_sample (aP m c) (aS m c) ⟨8192 + r.val, by omega⟩ (by simp)).trans ?_)
  funext k
  have e : 8192 + r.val - 8192 = r.val := by omega
  simp only [e]

/-- The keys of the prompt rows. -/
def keyP (c : Dev nD) : FVec Ideal S8192x2048 .f32 := fun i =>
  keyAt (projK (aG m c) (aW m c) (fun k => aP m c (ix3 ⟨(i 0).val / 2048, by have : (i 0).val < 8192 := (i 0).isLt; omega⟩ ⟨(i 0).val % 2048, Nat.mod_lt _ (by decide)⟩ k))) (vec (aK m c)) (BitVec.ofNat 32 ((i 0).val % 2048)) (i 1)
/-- The values of the prompt rows. -/
def valueP (c : Dev nD) : FVec Ideal S8192x2048 .f32 := fun i =>
  projK (aG m c) (aW m c) (fun k => aP m c (ix3 ⟨(i 0).val / 2048, by have : (i 0).val < 8192 := (i 0).isLt; omega⟩ ⟨(i 0).val % 2048, Nat.mod_lt _ (by decide)⟩ k)) ⟨10592 + (i 1).val, by have : (i 1).val < 2048 := (i 1).isLt; omega⟩

theorem A_vP (c : Dev nD) : W6 m ρ c main_v53_3 = valueP m c := by
  refine (W6_arr m ρ c 11).trans ((val2_11 (V5 m ρ) c).trans ?_)
  rw [P5]
  funext i
  have key : ∀ (r : Fin 8192) (j : Fin 2048), pr m c ⟨r.val, by omega⟩ ⟨6496 + (4096 + j.val), by omega⟩
      = projK (aG m c) (aW m c) (fun k => aP m c (ix3 ⟨r.val / 2048, by omega⟩ ⟨r.val % 2048, Nat.mod_lt _ (by decide)⟩ k)) ⟨10592 + j.val, by omega⟩ := by
    intro r j
    rw [pr_prompt]
    exact congrArg _ (Fin.ext (by show 6496 + (4096 + j.val) = 10592 + j.val; omega))
  exact key (i 0) (i 1)

theorem A_kP (h : FinArgs m) (c : Dev nD) : W6 m ρ c main_v53_1 = keyP m c := by
  refine (W6_arr m ρ c 9).trans ((val2_9 (V5 m ρ) c (fun i => by rw [P5]; exact pr_fin m h c _ _)).trans ?_)
  rw [P5, V5_v40, V5_v43, V5_v46, V5_v52]
  funext i
  have key : ∀ (r : Fin 8192) (j : Fin 2048), turn (lnorm (fun l => pr m c ⟨r.val, by omega⟩ ⟨6496 + (2048 + (j.val / 128 * 128 + l.val)), by omega⟩)
        (fun l => shapeCast S1x128 (concatenate S128 0 [⟨S64, shapeCast S64 (aK m c : FVec Ideal S1x64 .f32) shapeCasts_S1x64_S64⟩, ⟨S64, shapeCast S64 (aK m c : FVec Ideal S1x64 .f32) shapeCasts_S1x64_S64⟩] concatenates_S64_S64_S128_d0) shapeCasts_S128_S1x128 (ix2 0 l)))
      (fun l => h_v40 (ix2 r l)) (fun l => h_v43 (ix2 r l)) (fun l => h_v46 (ix2 r l)) ⟨j.val % 128, Nat.mod_lt _ (by decide)⟩
      = keyAt (projK (aG m c) (aW m c) (fun k => aP m c (ix3 ⟨r.val / 2048, by omega⟩ ⟨r.val % 2048, Nat.mod_lt _ (by decide)⟩ k))) (vec (aK m c)) (BitVec.ofNat 32 (r.val % 2048)) j := by
    intro r j
    simp only [gain_at, h_v40_at, h_v43_at, h_v46_at]
    rw [pr_prompt]
    exact key_eq _ _ _ j
  exact key (i 0) (i 1)

/-- The keys of the sample rows. -/
def keyS (c : Dev nD) : FVec Ideal S256x2048 .f32 := fun i =>
  keyAt (projK (aG m c) (aW m c) (fun k => aS m c (ix3 ⟨(i 0).val / 32, by have : (i 0).val < 256 := (i 0).isLt; omega⟩ ⟨(i 0).val % 32, Nat.mod_lt _ (by decide)⟩ k))) (vec (aK m c)) (IntOp.addi 4096#32 (BitVec.ofNat 32 ((i 0).val % 32))) (i 1)
/-- The values of the sample rows. -/
def valueS (c : Dev nD) : FVec Ideal S256x2048 .f32 := fun i =>
  projK (aG m c) (aW m c) (fun k => aS m c (ix3 ⟨(i 0).val / 32, by have : (i 0).val < 256 := (i 0).isLt; omega⟩ ⟨(i 0).val % 32, Nat.mod_lt _ (by decide)⟩ k)) ⟨10592 + (i 1).val, by have : (i 1).val < 2048 := (i 1).isLt; omega⟩

theorem A_vS (c : Dev nD) : W8 m ρ c main_v101_3 = valueS m c := by
  refine (W8_arr m ρ c 11).trans ((val3_11 (V7 m ρ) c).trans ?_)
  rw [P7]
  funext i
  have key : ∀ (r : Fin 256) (j : Fin 2048), pr m c ⟨8192 + r.val, by omega⟩ ⟨6496 + (4096 + j.val), by omega⟩
      = projK (aG m c) (aW m c) (fun k => aS m c (ix3 ⟨r.val / 32, by omega⟩ ⟨r.val % 32, Nat.mod_lt _ (by decide)⟩ k)) ⟨10592 + j.val, by omega⟩ := by
    intro r j
    rw [pr_sample]
    exact congrArg _ (Fin.ext (by show 6496 + (4096 + j.val) = 10592 + j.val; omega))
  exact key (i 0) (i 1)

theorem A_kS (h : FinArgs m) (c : Dev nD) : W8 m ρ c main_v101_1 = keyS m c := by
  refine (W8_arr m ρ c 9).trans ((val3_9 (V7 m ρ) c (fun i => by rw [P7]; exact pr_fin m h c _ _)).trans ?_)
  rw [P7, V7_v88, V7_v91, V7_v94, V7_v100]
  funext i
  have key : ∀ (r : Fin 256) (j : Fin 2048), turn (lnorm (fun l => pr m c ⟨8192 + r.val, by omega⟩ ⟨6496 + (2048 + (j.val / 128 * 128 + l.val)), by omega⟩)
        (fun l => shapeCast S1x128 (concatenate S128 0 [⟨S64, shapeCast S64 (aK m c : FVec Ideal S1x64 .f32) shapeCasts_S1x64_S64⟩, ⟨S64, shapeCast S64 (aK m c : FVec Ideal S1x64 .f32) shapeCasts_S1x64_S64⟩] concatenates_S64_S64_S128_d0) shapeCasts_S128_S1x128 (ix2 0 l)))
      (fun l => h_v88 (ix2 r l)) (fun l => h_v91 (ix2 r l)) (fun l => h_v94 (ix2 r l)) ⟨j.val % 128, Nat.mod_lt _ (by decide)⟩
      = keyAt (projK (aG m c) (aW m c) (fun k => aS m c (ix3 ⟨r.val / 32, by omega⟩ ⟨r.val % 32, Nat.mod_lt _ (by decide)⟩ k))) (vec (aK m c)) (IntOp.addi 4096#32 (BitVec.ofNat 32 (r.val % 32))) j := by
    intro r j
    simp only [gain_at, h_v88_at, h_v91_at, h_v94_at]
    rw [pr_sample]
    exact key_eq _ _ _ j
  exact key (i 0) (i 1)

/-! The prompt's results at the end. -/

theorem E_kP (h : FinArgs m) (c : Dev nD) : W8 m ρ c main_v53_1 = keyP m c :=
  ((W8_of m ρ c main_v53_1 (by decide)).trans (W7_of m ρ c main_v53_1 (by decide))).trans (A_kP m ρ h c)
theorem E_vP (c : Dev nD) : W8 m ρ c main_v53_3 = valueP m c :=
  ((W8_of m ρ c main_v53_3 (by decide)).trans (W7_of m ρ c main_v53_3 (by decide))).trans (A_vP m ρ c)

end Cert.KeysIdeal.Val
end
-- ==== Proof.KeysRun.lean ====
/- The keys' run with its four results named: the launch over the segments, each result read at the last boundary. -/
module
public import proofs.«01_k».proof.Proof.KeysChain
@[expose] public section
set_option maxRecDepth 16384
noncomputable section
namespace Cert.KeysIdeal.Val
open Cert.Spec Cert.KeysIdeal Cert.KeysIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the results named and the arguments unchanged, if the projection's arguments are finite. -/
theorem run (hf : FinArgs m) : θ_run defs (onTc (τ := τ) (main (F := Ideal))) ⟨m, fun _ => 0, ρ⟩ (fun r => ∀ c : Dev nD,
      r.2.mem ((c.tc : Thread nD τ).loc main_v53_1) = keyP m c
      ∧ r.2.mem ((c.tc : Thread nD τ).loc main_v53_3) = valueP m c
      ∧ r.2.mem ((c.tc : Thread nD τ).loc main_v101_1) = keyS m c
      ∧ r.2.mem ((c.tc : Thread nD τ).loc main_v101_3) = valueS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v53_1 (by decide))).trans (E_kP m ρ hf c),
       (h c _ (mem_uc main_v53_3 (by decide))).trans (E_vP m ρ c),
       (h c _ (mem_uc main_v101_1 (by decide))).trans (A_kS m ρ hf c),
       (h c _ (mem_uc main_v101_3 (by decide))).trans (A_vS m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KeysIdeal.Val
end
-- ==== Proof.KeysPre.lean ====
/- What the precondition `finite` says of the arguments: every entry is a real. -/
module
public import proofs.«01_k».proof.Defs
public import proofs.«01_k».proof.Proof.Gen.Pre_finite
public import proofs.«01_k».proof.Proof.Gen.KeysIdeal
public import Idealize.ShloMosaic.Lib.ReduceAll
public import Idealize.ShloMosaic.Lib.KernelVsHost
public import proofs.«01_k».proof.Proof.KeysSpec
@[expose] public section
set_option maxRecDepth 16384
noncomputable section
namespace Cert.KeysIdeal.Val
open Cert.Spec Idealize.ShloMosaic Idealize.ShloMosaic.TcCoe Idealize.SL.Sem

instance : Subsingleton Cert.Pre_finite.S_.Idx := ⟨fun _ _ => funext fun a => a.elim0⟩

theorem and_one : ∀ a b : BitVec 1, IntOp.andi a b = 1#1 → a = 1#1 ∧ b = 1#1 := by decide

/-- `|x| < +∞` says that `x` is a real. -/
theorem fin_of_lt (x : Ideal .f32) (h : FloatOps.cmpf .olt (FloatOps.hostAbsf x) (FloatOps.ofBits (F := Ideal) .f32 0x7F800000#32) = 1#1) : IsFin x := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'; exact absurd h' (by decide)
  · exact ⟨EReal.toReal x, (EReal.coe_toReal (fun e => hx (Or.inl e)) (fun e => hx (Or.inr e))).symm⟩

theorem fin_of_pre (x0 : FVec Ideal Cert.Pre_finite.S4x2048x4096 .f32) (x1 : FVec Ideal Cert.Pre_finite.S8x32x4096 .f32) (x2 : FVec Ideal Cert.Pre_finite.S1x4096 .f32)
    (x3 : FVec Ideal Cert.Pre_finite.S1x4096x20832 .f32) (x4 x5 : FVec Ideal Cert.Pre_finite.S1x64 .f32)
    (h : Cert.Pre_finite.fn (F := Ideal) x0 x1 x2 x3 x4 x5 = fun _ => 1#1) :
    (∀ i, IsFin (x0 i)) ∧ (∀ i, IsFin (x1 i)) ∧ (∀ i, IsFin (x2 i)) ∧ (∀ i, IsFin (x3 i)) := by
  have h := congrFun h (fun a => a.elim0)
  obtain ⟨h, h3⟩ := and_one _ _ h
  obtain ⟨h, h2⟩ := and_one _ _ h
  obtain ⟨h0, h1⟩ := and_one _ _ h
  exact ⟨fun i => fin_of_lt _ (Host.reduce_andi_all _ _ _ _ _ h0 i), fun i => fin_of_lt _ (Host.reduce_andi_all _ _ _ _ _ h1 i),
    fun i => fin_of_lt _ (Host.reduce_andi_all _ _ _ _ _ h2 i), fun i => fin_of_lt _ (Host.reduce_andi_all _ _ _ _ _ h3 i)⟩

end Cert.KeysIdeal.Val
end
-- ==== Proof.KeysReference.lean ====
/- The reference's stages, each read as rows of the arguments. -/
module
public import proofs.«01_k».proof.Proof.Gen.KeysRefIdeal.Read
public import Idealize.ShloMosaic.Lib.IdealHost
public import proofs.«01_k».proof.Proof.KeysSpec
@[expose] public section
set_option maxRecDepth 16384
noncomputable section
namespace Cert.KeysRefIdeal.Val
open Cert.KeysRefIdeal Cert.KeysRefIdeal.Gen Cert.KeysRefIdeal.Read Idealize.ShloMosaic Cert.Spec

variable (x0 : FVec Ideal S4x2048x4096 .f32) (x1 : FVec Ideal S8x32x4096 .f32) (x2 : FVec Ideal S1x4096 .f32) (x3 : FVec Ideal S1x4096x20832 .f32) (x5 : FVec Ideal S1x64 .f32)

theorem v17_at (b : Fin 4) (t : Fin 2048) (j : Fin 20832) : val_main_v17 (F := Ideal) x0 x2 x3 (ix3 b t j) = projK x2 x3 (fun k => x0 (ix3 b t k)) j := by
  pointwise [val_main_v17, val_main_v1, val_main_v16, val_main_v15, val_main_v14, val_main_v0, val_main_v13, val_main_v12, val_main_v11, val_main_v10, val_main_v9, val_main_cst_1, val_main_v8, val_main_v7, val_main_cst_0, val_main_v6, val_main_v5, val_main_cst, val_main_v4, projK, lin, rms, vec, mat]

theorem v34_at (b : Fin 4) (t : Fin 2048) (h : Fin 16) (c : Fin 2) (d : Fin 64) : val_main_v34 (F := Ideal) x0 x2 x3 x5 (ix5 b t h c d)
    = hnorm (fun e => projK x2 x3 (fun k => x0 (ix3 b t k)) ⟨8544 + (h.val * 128 + c.val * 64 + e.val), by omega⟩) (vec x5) d := by
  pointwise [val_main_v34, val_main_v33, val_main_v32, val_main_v2, val_main_v31, val_main_v30, val_main_v29, val_main_v28, val_main_v27, val_main_cst_4, val_main_v26, val_main_v25, val_main_cst_3, val_main_v24, val_main_v23, val_main_cst_2, val_main_v22, val_main_v19, val_main_v18, v17_at x0 x2 x3, hnorm, vec]

theorem v50_at (t : Fin 2048) (d : Fin 8) : val_main_v50 (F := Ideal) (ix2 t d) = angle (BitVec.ofNat 32 t.val) d := by
  pointwise [val_main_v50, val_main_v49, val_main_v47, val_main_v44, val_main_v42, val_main_v41, val_main_cst_7, val_main_v40, val_main_v39, val_main_v37, val_main_v35, val_main_v36, val_main_cst_5, val_main_v38, val_main_cst_6, val_main_v43, val_main_cst_8, val_main_v48, val_main_v46, val_main_v45, val_main_v3, angle]

theorem v74_at (b : Fin 4) (t : Fin 2048) (h : Fin 16) (c : Fin 2) (d : Fin 64) : val_main_v74 (F := Ideal) x0 x2 x3 x5 (ix5 b t h c d)
    = hrope (hnorm (fun e => projK x2 x3 (fun k => x0 (ix3 b t k)) ⟨8544 + (h.val * 128 + c.val * 64 + e.val), by omega⟩) (vec x5)) (fun d => Ideal.cos (angle (BitVec.ofNat 32 t.val) d)) (fun d => Ideal.sin (angle (BitVec.ofNat 32 t.val) d)) d := by
  pointwise [val_main_v74, val_main_v73, val_main_v72, val_main_v71, val_main_v70, val_main_v69, val_main_v68, val_main_v52, val_main_v51, val_main_v57, val_main_v55, val_main_v67, val_main_v66, val_main_v65, val_main_v54, val_main_v53, val_main_v56, val_main_v64, val_main_v63, val_main_v62, val_main_v61, val_main_v60, val_main_v59, val_main_v58, v34_at x0 x2 x3 x5, v50_at]
  exact hrope_nested (hnorm (fun e => projK x2 x3 (fun k => x0 (ix3 b t k)) ⟨8544 + (h.val * 128 + c.val * 64 + e.val), by omega⟩) (vec x5)) (fun d => Ideal.cos (angle (BitVec.ofNat 32 t.val) d)) (fun d => Ideal.sin (angle (BitVec.ofNat 32 t.val) d)) d

theorem v75_fn : val_main_v75 (F := Ideal) x0 x2 x3 x5 = fun i : S8192x2048.Idx => keyAt (projK x2 x3 (fun k => x0 (ix3 ⟨(i 0).val / 2048, by have : (i 0).val < 8192 := (i 0).isLt; omega⟩ ⟨(i 0).val % 2048, Nat.mod_lt _ (by decide)⟩ k))) (vec x5) (BitVec.ofNat 32 ((i 0).val % 2048)) (i 1) := by
  funext i
  idx_vars i
  pointwise [val_main_v75, v74_at x0 x2 x3 x5, keyAt]
  exact congrArg (fun f : Fin 64 → EReal => hrope (hnorm f _) _ _ _) (funext fun e => congrArg _ (Fin.ext (by
    show 8544 + (i1.val / 128 * 128 + i1.val / 64 % 2 * 64 + e.val) = 8544 + (i1.val / 64 * 64 + e.val); omega)))

theorem v76_fn : val_main_v76 (F := Ideal) x0 x2 x3 = fun i : S8192x2048.Idx => projK x2 x3 (fun k => x0 (ix3 ⟨(i 0).val / 2048, by have : (i 0).val < 8192 := (i 0).isLt; omega⟩ ⟨(i 0).val % 2048, Nat.mod_lt _ (by decide)⟩ k)) ⟨10592 + (i 1).val, by have : (i 1).val < 2048 := (i 1).isLt; omega⟩ := by
  funext i
  idx_vars i
  pointwise [val_main_v76, val_main_v21, val_main_v20, v17_at x0 x2 x3]

theorem v96_at (b : Fin 8) (t : Fin 32) (j : Fin 20832) : val_main_v96 (F := Ideal) x1 x2 x3 (ix3 b t j) = projK x2 x3 (fun k => x1 (ix3 b t k)) j := by
  pointwise [val_main_v96, val_main_v78, val_main_v95, val_main_v94, val_main_v93, val_main_v77, val_main_v92, val_main_v91, val_main_v90, val_main_v89, val_main_v88, val_main_cst_11, val_main_v87, val_main_v86, val_main_cst_10, val_main_v85, val_main_v84, val_main_cst_9, val_main_v83, projK, lin, rms, vec, mat]

theorem v113_at (b : Fin 8) (t : Fin 32) (h : Fin 16) (c : Fin 2) (d : Fin 64) : val_main_v113 (F := Ideal) x1 x2 x3 x5 (ix5 b t h c d)
    = hnorm (fun e => projK x2 x3 (fun k => x1 (ix3 b t k)) ⟨8544 + (h.val * 128 + c.val * 64 + e.val), by omega⟩) (vec x5) d := by
  pointwise [val_main_v113, val_main_v112, val_main_v111, val_main_v79, val_main_v110, val_main_v109, val_main_v108, val_main_v107, val_main_v106, val_main_cst_14, val_main_v105, val_main_v104, val_main_cst_13, val_main_v103, val_main_v102, val_main_cst_12, val_main_v101, val_main_v98, val_main_v97, v96_at x1 x2 x3, hnorm, vec]

theorem v129_at (t : Fin 32) (d : Fin 8) : val_main_v129 (F := Ideal) (ix2 t d) = angle (IntOp.addi 4096#32 (BitVec.ofNat 32 t.val)) d := by
  pointwise [val_main_v129, val_main_v128, val_main_v126, val_main_v123, val_main_v121, val_main_v120, val_main_cst_17, val_main_v119, val_main_v118, val_main_v116, val_main_v114, val_main_v115, val_main_cst_15, val_main_v117, val_main_cst_16, val_main_v122, val_main_cst_18, val_main_v127, val_main_v125, val_main_v124, val_main_v82, val_main_v80, val_main_v81, val_main_c, angle]

theorem v153_at (b : Fin 8) (t : Fin 32) (h : Fin 16) (c : Fin 2) (d : Fin 64) : val_main_v153 (F := Ideal) x1 x2 x3 x5 (ix5 b t h c d)
    = hrope (hnorm (fun e => projK x2 x3 (fun k => x1 (ix3 b t k)) ⟨8544 + (h.val * 128 + c.val * 64 + e.val), by omega⟩) (vec x5)) (fun d => Ideal.cos (angle (IntOp.addi 4096#32 (BitVec.ofNat 32 t.val)) d)) (fun d => Ideal.sin (angle (IntOp.addi 4096#32 (BitVec.ofNat 32 t.val)) d)) d := by
  pointwise [val_main_v153, val_main_v152, val_main_v151, val_main_v150, val_main_v149, val_main_v148, val_main_v147, val_main_v131, val_main_v130, val_main_v136, val_main_v134, val_main_v146, val_main_v145, val_main_v144, val_main_v133, val_main_v132, val_main_v135, val_main_v143, val_main_v142, val_main_v141, val_main_v140, val_main_v139, val_main_v138, val_main_v137, v113_at x1 x2 x3 x5, v129_at]
  exact hrope_nested (hnorm (fun e => projK x2 x3 (fun k => x1 (ix3 b t k)) ⟨8544 + (h.val * 128 + c.val * 64 + e.val), by omega⟩) (vec x5)) (fun d => Ideal.cos (angle (IntOp.addi 4096#32 (BitVec.ofNat 32 t.val)) d)) (fun d => Ideal.sin (angle (IntOp.addi 4096#32 (BitVec.ofNat 32 t.val)) d)) d

theorem v154_fn : val_main_v154 (F := Ideal) x1 x2 x3 x5 = fun i : S256x2048.Idx => keyAt (projK x2 x3 (fun k => x1 (ix3 ⟨(i 0).val / 32, by have : (i 0).val < 256 := (i 0).isLt; omega⟩ ⟨(i 0).val % 32, Nat.mod_lt _ (by decide)⟩ k))) (vec x5) (IntOp.addi 4096#32 (BitVec.ofNat 32 ((i 0).val % 32))) (i 1) := by
  funext i
  idx_vars i
  pointwise [val_main_v154, v153_at x1 x2 x3 x5, keyAt]
  exact congrArg (fun f : Fin 64 → EReal => hrope (hnorm f _) _ _ _) (funext fun e => congrArg _ (Fin.ext (by
    show 8544 + (i1.val / 128 * 128 + i1.val / 64 % 2 * 64 + e.val) = 8544 + (i1.val / 64 * 64 + e.val); omega)))

theorem v155_fn : val_main_v155 (F := Ideal) x1 x2 x3 = fun i : S256x2048.Idx => projK x2 x3 (fun k => x1 (ix3 ⟨(i 0).val / 32, by have : (i 0).val < 256 := (i 0).isLt; omega⟩ ⟨(i 0).val % 32, Nat.mod_lt _ (by decide)⟩ k)) ⟨10592 + (i 1).val, by have : (i 1).val < 2048 := (i 1).isLt; omega⟩ := by
  funext i
  idx_vars i
  pointwise [val_main_v155, val_main_v100, val_main_v99, v96_at x1 x2 x3]

end Cert.KeysRefIdeal.Val
end
-- ==== Proof.KeysValue.lean ====
/- The keys' kernel and their reference compute the same four results. -/
module
public import proofs.«01_k».proof.Defs
public import proofs.«01_k».proof.Proof.Gen.KeysIdeal
public import proofs.«01_k».proof.Proof.Gen.KeysRefIdeal
public import proofs.«01_k».proof.Proof.Gen.KeysRefIdeal.Run
public import proofs.«01_k».proof.Proof.KeysRun
public import proofs.«01_k».proof.Proof.KeysPre
public import proofs.«01_k».proof.Proof.KeysReference
@[expose] public section
set_option maxRecDepth 16384
noncomputable section
namespace Cert.Proof
open Idealize.ShloMosaic Idealize.ShloMosaic.TcCoe Idealize.SL.Sem

set_option maxHeartbeats 4000000 in
theorem keys_value : Cert.algebraic_KeysIdeal_KeysRefIdeal_pre_finite := by
  intro m g m' g' hpre hagree
  have hf : Cert.KeysIdeal.Val.FinArgs m := fun c => Cert.KeysIdeal.Val.fin_of_pre _ _ _ _ _ _ (hpre c)
  refine ⟨Cert.KeysIdeal.Val.keyP m, Cert.KeysIdeal.Val.valueP m, Cert.KeysIdeal.Val.keyS m, Cert.KeysIdeal.Val.valueS m,
    Cert.KeysIdeal.Val.run m g hf, ?_⟩
  refine (θ_run _ _ _).mono (fun r h c => ?_) (Cert.KeysRefIdeal.Value.run (F := Ideal) m' g')
  obtain ⟨h0, h1, h2, h3, h4, h5⟩ := hagree c
  obtain ⟨e0, e1, e2, e3, hargs⟩ := h c
  refine ⟨e0.trans ?_, e1.trans ?_, e2.trans ?_, e3.trans ?_, hargs⟩
  · refine (Cert.KeysRefIdeal.Read.val_main_v75_eq _ _).trans ((Cert.KeysRefIdeal.Val.v75_fn
      (m' ((c.tc : Thread Cert.KeysRefIdeal.nD Cert.KeysRefIdeal.τ).loc Cert.KeysRefIdeal.main_arg0)) (m' ((c.tc : Thread Cert.KeysRefIdeal.nD Cert.KeysRefIdeal.τ).loc Cert.KeysRefIdeal.main_arg2)) (m' ((c.tc : Thread Cert.KeysRefIdeal.nD Cert.KeysRefIdeal.τ).loc Cert.KeysRefIdeal.main_arg3)) (m' ((c.tc : Thread Cert.KeysRefIdeal.nD Cert.KeysRefIdeal.τ).loc Cert.KeysRefIdeal.main_arg5))).trans ?_)
    rw [h0, h2, h3, h5]
    rfl
  · refine (Cert.KeysRefIdeal.Read.val_main_v76_eq _ _ _).trans ((Cert.KeysRefIdeal.Val.v76_fn
      (m' ((c.tc : Thread Cert.KeysRefIdeal.nD Cert.KeysRefIdeal.τ).loc Cert.KeysRefIdeal.main_arg0)) (m' ((c.tc : Thread Cert.KeysRefIdeal.nD Cert.KeysRefIdeal.τ).loc Cert.KeysRefIdeal.main_arg2)) (m' ((c.tc : Thread Cert.KeysRefIdeal.nD Cert.KeysRefIdeal.τ).loc Cert.KeysRefIdeal.main_arg3))).trans ?_)
    rw [h0, h2, h3]
    rfl
  · refine (Cert.KeysRefIdeal.Read.val_main_v154_eq _ _).trans ((Cert.KeysRefIdeal.Val.v154_fn
      (m' ((c.tc : Thread Cert.KeysRefIdeal.nD Cert.KeysRefIdeal.τ).loc Cert.KeysRefIdeal.main_arg1)) (m' ((c.tc : Thread Cert.KeysRefIdeal.nD Cert.KeysRefIdeal.τ).loc Cert.KeysRefIdeal.main_arg2)) (m' ((c.tc : Thread Cert.KeysRefIdeal.nD Cert.KeysRefIdeal.τ).loc Cert.KeysRefIdeal.main_arg3)) (m' ((c.tc : Thread Cert.KeysRefIdeal.nD Cert.KeysRefIdeal.τ).loc Cert.KeysRefIdeal.main_arg5))).trans ?_)
    rw [h1, h2, h3, h5]
    rfl
  · refine (Cert.KeysRefIdeal.Read.val_main_v155_eq _ _ _).trans ((Cert.KeysRefIdeal.Val.v155_fn
      (m' ((c.tc : Thread Cert.KeysRefIdeal.nD Cert.KeysRefIdeal.τ).loc Cert.KeysRefIdeal.main_arg1)) (m' ((c.tc : Thread Cert.KeysRefIdeal.nD Cert.KeysRefIdeal.τ).loc Cert.KeysRefIdeal.main_arg2)) (m' ((c.tc : Thread Cert.KeysRefIdeal.nD Cert.KeysRefIdeal.τ).loc Cert.KeysRefIdeal.main_arg3))).trans ?_)
    rw [h1, h2, h3]
    rfl

theorem keys_frame_ref : Cert.quiescent_KeysRefIdeal := fun m ρ _ =>
  (θ_run Cert.KeysRefIdeal.defs _ _).mono
    (fun r h => ⟨fun c => (h c).2.2.2.2, Idealize.ShloMosaic.sem_eq_zero_of_no_sems (by decide) r.2⟩)
    (Cert.KeysRefIdeal.Value.run (F := Ideal) m ρ)

theorem keys_frame_ref_pre : Cert.quiescent_KeysRefIdeal_pre_finite := fun m ρ _ => keys_frame_ref m ρ trivial

end Cert.Proof
end
-- ==== Proof.lean ====
module

public import proofs.«01_k».proof.Defs
public import proofs.«01_k».proof.Proof.Gen.Layer
public import proofs.«01_k».proof.Proof.Gen.Layer.Skeleton
public import proofs.«01_k».proof.Proof.Gen.Layer.Launch
public import proofs.«01_k».proof.Proof.Gen.Layer.Points
public import proofs.«01_k».proof.Proof.Gen.Layer.Frame
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerIdeal.Frame
public import proofs.«01_k».proof.Proof.Gen.LayerRefIdeal
public import proofs.«01_k».proof.Proof.Gen.PlePrompt
public import proofs.«01_k».proof.Proof.Gen.PlePrompt.Skeleton
public import proofs.«01_k».proof.Proof.Gen.PlePrompt.Launch
public import proofs.«01_k».proof.Proof.Gen.PlePrompt.Points
public import proofs.«01_k».proof.Proof.Gen.PlePrompt.Frame
public import proofs.«01_k».proof.Proof.Gen.PlePromptIdeal
public import proofs.«01_k».proof.Proof.Gen.PlePromptIdeal.Skeleton
public import proofs.«01_k».proof.Proof.Gen.PlePromptIdeal.Launch
public import proofs.«01_k».proof.Proof.Gen.PlePromptIdeal.Points
public import proofs.«01_k».proof.Proof.Gen.PlePromptIdeal.Frame
public import proofs.«01_k».proof.Proof.Gen.PleRefIdeal
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.Keys.Frame
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.KeysRefIdeal
public import proofs.«01_k».proof.Proof.Gen.Pre_finite
public import proofs.«01_k».proof.Proof.Gen.LayerRefIdeal.Run
public import proofs.«01_k».proof.Proof.Gen.LayerRefIdeal.Read
public import proofs.«01_k».proof.Proof.Gen.PleRefIdeal.Run
public import proofs.«01_k».proof.Proof.Gen.PleRefIdeal.Read
public import proofs.«01_k».proof.Proof.Gen.KeysRefIdeal.Run
public import proofs.«01_k».proof.Proof.Gen.KeysRefIdeal.Read
public import proofs.«01_k».proof.Proof.LayerValue
public import proofs.«01_k».proof.Proof.PleValue
public import proofs.«01_k».proof.Proof.KeysValue
public import Idealize.ShloMosaic.Adequacy
public import Idealize.ShloMosaic.Init

@[expose] public section

noncomputable section

namespace Cert.Proof

open Idealize.ShloMosaic Idealize.SL.Sem Cert.Layer

theorem claim : Cert.Claim := ⟨Cert.Layer.Gen.facts, Cert.LayerIdeal.Gen.facts, Cert.LayerRefIdeal.Gen.facts, Cert.PlePrompt.Gen.facts, Cert.PlePromptIdeal.Gen.facts, Cert.PleRefIdeal.Gen.facts, Cert.Keys.Gen.facts, Cert.KeysIdeal.Gen.facts, Cert.KeysRefIdeal.Gen.facts, Cert.Pre_finite.Gen.facts,
  fun m ρ _ => Cert.Layer.Gen.frame m ρ, fun m ρ _ => Cert.LayerIdeal.Gen.frame m ρ, layer_frame_ref,
  fun m ρ _ => Cert.PlePrompt.Gen.frame m ρ, fun m ρ _ => Cert.PlePromptIdeal.Gen.frame m ρ, ple_frame_ref,
  fun m ρ _ => Cert.Keys.Gen.frame m ρ, fun m ρ _ => Cert.KeysIdeal.Gen.frame m ρ, fun m ρ _ => Cert.KeysIdeal.Gen.frame m ρ,
  keys_frame_ref, keys_frame_ref_pre,
  trivial, layer_value, trivial, ple_value, trivial, keys_value⟩

end Cert.Proof

end
